-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S256x5000 : Shape := ⟨2, ![256, 5000]⟩
abbrev S8x2x1600 : Shape := ⟨3, ![8, 2, 1600]⟩
abbrev S8x400 : Shape := ⟨2, ![8, 400]⟩
abbrev S1x32 : Shape := ⟨2, ![1, 32]⟩
abbrev S4x8 : Shape := ⟨2, ![4, 8]⟩
abbrev S32 : Shape := ⟨1, ![32]⟩
abbrev S32x32 : Shape := ⟨2, ![32, 32]⟩
abbrev S32x1 : Shape := ⟨2, ![32, 1]⟩
abbrev S1 : Shape := ⟨1, ![1]⟩
abbrev S8x128 : Shape := ⟨2, ![8, 128]⟩
abbrev S128 : Shape := ⟨1, ![128]⟩
abbrev S128x128 : Shape := ⟨2, ![128, 128]⟩
abbrev S128x1 : Shape := ⟨2, ![128, 1]⟩
abbrev S_ : Shape := ⟨0, ![]⟩

class Facts : Prop where
  bcast_S_S8x2x1600 : S_.BroadcastsInDim S8x2x1600 (![] : Fin 0 → Fin S8x2x1600.rank)
  bcast_S_S8x400 : S_.BroadcastsInDim S8x400 (![] : Fin 0 → Fin S8x400.rank)
  bcast_S_S256x5000 : S_.BroadcastsInDim S256x5000 (![] : Fin 0 → Fin S256x5000.rank)
  bcast_S_S1x32 : S_.BroadcastsInDim S1x32 (![] : Fin 0 → Fin S1x32.rank)
  bcast_S_S4x8 : S_.BroadcastsInDim S4x8 (![] : Fin 0 → Fin S4x8.rank)

variable [Facts]

def fn_part1 {F : FTy → Type} [FloatOps F] (main_arg5 : FVec F S4x8 .f32) (main_v4 : IVec S8x2x1600 1) (main_v9 : IVec S8x400 1) (main_v12 : IVec S256x5000 1) (main_v15 : IVec S1x32 1) (main_v16 : FVec F S4x8 .f32) (main_cst_4 : FVec F S_ .f32) : IVec S8x2x1600 1 × IVec S8x400 1 × IVec S256x5000 1 × IVec S1x32 1 × IVec S4x8 1 × IVec S4x8 1 :=
  let main_v17 : FVec F S4x8 .f32 := broadcastInDim S4x8 ![] bcast_S_S4x8 main_cst_4
  let main_v18 : IVec S4x8 1 := cmpf .olt main_v16 main_v17
  let main_v19 : FVec F S4x8 .f32 := Host.absf main_arg5
  let main_cst_5 : FVec F S_ .f32 := constant S_ .f32 0x7F800000#32
  let main_v20 : FVec F S4x8 .f32 := broadcastInDim S4x8 ![] bcast_S_S4x8 main_cst_5
  let main_v21 : IVec S4x8 1 := cmpf .olt main_v19 main_v20
  (main_v4, main_v9, main_v12, main_v15, main_v18, main_v21)

def fn {F : FTy → Type} [FloatOps F] (main_arg0 : FVec F S256x5000 .f32) (main_arg1 : IVec S8x2x1600 32) (main_arg2 : IVec S8x400 32) (main_arg3 : FVec F S1x32 .f32) (main_arg4 : FVec F S4x8 .f32) (main_arg5 : FVec F S4x8 .f32) (main_arg6 : FVec F S32 .f32) (main_arg7 : FVec F S32x32 .f32) (main_arg8 : FVec F S1x32 .f32) (main_arg9 : FVec F S1x32 .f32) (main_arg10 : FVec F S32 .f32) (main_arg11 : FVec F S32x1 .f32) (main_arg12 : FVec F S1 .f32) (main_arg13 : FVec F S8x128 .f32) (main_arg14 : FVec F S128 .f32) (main_arg15 : FVec F S128x128 .f32) (main_arg16 : FVec F S128 .f32) (main_arg17 : FVec F S128x1 .f32) (main_arg18 : FVec F S1 .f32) : IVec S8x2x1600 1 × IVec S8x400 1 × IVec S256x5000 1 × IVec S1x32 1 × IVec S4x8 1 × IVec S4x8 1 :=
  let main_c : IVec S_ 32 := constantI S_ 32 0#32
  let main_v0 : IVec S8x2x1600 32 := broadcastInDim S8x2x1600 ![] bcast_S_S8x2x1600 main_c
  let main_v1 : IVec S8x2x1600 1 := cmpi .sge main_arg1 main_v0
  let main_c_0 : IVec S_ 32 := constantI S_ 32 400#32
  let main_v2 : IVec S8x2x1600 32 := broadcastInDim S8x2x1600 ![] bcast_S_S8x2x1600 main_c_0
  let main_v3 : IVec S8x2x1600 1 := cmpi .slt main_arg1 main_v2
  let main_v4 : IVec S8x2x1600 1 := andi main_v1 main_v3
  let main_c_1 : IVec S_ 32 := constantI S_ 32 0#32
  let main_v5 : IVec S8x400 32 := broadcastInDim S8x400 ![] bcast_S_S8x400 main_c_1
  let main_v6 : IVec S8x400 1 := cmpi .sge main_arg2 main_v5
  let main_c_2 : IVec S_ 32 := constantI S_ 32 5000#32
  let main_v7 : IVec S8x400 32 := broadcastInDim S8x400 ![] bcast_S_S8x400 main_c_2
  let main_v8 : IVec S8x400 1 := cmpi .slt main_arg2 main_v7
  let main_v9 : IVec S8x400 1 := andi main_v6 main_v8
  let main_v10 : FVec F S256x5000 .f32 := Host.absf main_arg0
  let main_cst : FVec F S_ .f32 := constant S_ .f32 0x7F800000#32
  let main_v11 : FVec F S256x5000 .f32 := broadcastInDim S256x5000 ![] bcast_S_S256x5000 main_cst
  let main_v12 : IVec S256x5000 1 := cmpf .olt main_v10 main_v11
  let main_v13 : FVec F S1x32 .f32 := Host.absf main_arg3
  let main_cst_3 : FVec F S_ .f32 := constant S_ .f32 0x7F800000#32
  let main_v14 : FVec F S1x32 .f32 := broadcastInDim S1x32 ![] bcast_S_S1x32 main_cst_3
  let main_v15 : IVec S1x32 1 := cmpf .olt main_v13 main_v14
  let main_v16 : FVec F S4x8 .f32 := Host.absf main_arg4
  let main_cst_4 : FVec F S_ .f32 := constant S_ .f32 0x7F800000#32
  fn_part1 (F := F) main_arg5 main_v4 main_v9 main_v12 main_v15 main_v16 main_cst_4
-- ==== Kernel.lean ====
abbrev S256x5000 : Shape := ⟨2, ![256, 5000]⟩
abbrev S8x2x1600 : Shape := ⟨3, ![8, 2, 1600]⟩
abbrev S8x400 : Shape := ⟨2, ![8, 400]⟩
abbrev S1x32 : Shape := ⟨2, ![1, 32]⟩
abbrev S4x8 : Shape := ⟨2, ![4, 8]⟩
abbrev S32 : Shape := ⟨1, ![32]⟩
abbrev S32x32 : Shape := ⟨2, ![32, 32]⟩
abbrev S32x1 : Shape := ⟨2, ![32, 1]⟩
abbrev S1 : Shape := ⟨1, ![1]⟩
abbrev S8x128 : Shape := ⟨2, ![8, 128]⟩
abbrev S128 : Shape := ⟨1, ![128]⟩
abbrev S128x128 : Shape := ⟨2, ![128, 128]⟩
abbrev S128x1 : Shape := ⟨2, ![128, 1]⟩
abbrev S8x1x400 : Shape := ⟨3, ![8, 1, 400]⟩
abbrev S8x400x400 : Shape := ⟨3, ![8, 400, 400]⟩
abbrev S1x2x1600 : Shape := ⟨3, ![1, 2, 1600]⟩
abbrev S1x400x400 : Shape := ⟨3, ![1, 400, 400]⟩
abbrev S2x1600 : Shape := ⟨2, ![2, 1600]⟩
abbrev S1x1600 : Shape := ⟨2, ![1, 1600]⟩
abbrev S1600 : Shape := ⟨1, ![1600]⟩
abbrev S1600x400 : Shape := ⟨2, ![1600, 400]⟩
abbrev S1600x1 : Shape := ⟨2, ![1600, 1]⟩
abbrev S400x400 : Shape := ⟨2, ![400, 400]⟩
abbrev S8x32x256x400 : Shape := ⟨4, ![8, 32, 256, 400]⟩
abbrev S8x256x400 : Shape := ⟨3, ![8, 256, 400]⟩
abbrev S64x5000 : Shape := ⟨2, ![64, 5000]⟩
abbrev S1x1x400 : Shape := ⟨3, ![1, 1, 400]⟩
abbrev S1x32x64x400 : Shape := ⟨4, ![1, 32, 64, 400]⟩
abbrev S1x64x400 : Shape := ⟨3, ![1, 64, 400]⟩
abbrev S400 : Shape := ⟨1, ![400]⟩
abbrev S64x400 : Shape := ⟨2, ![64, 400]⟩
abbrev S1000x400 : Shape := ⟨2, ![1000, 400]⟩
abbrev S1x400 : Shape := ⟨2, ![1, 400]⟩
abbrev S64x1000 : Shape := ⟨2, ![64, 1000]⟩
abbrev S400x1600 : Shape := ⟨2, ![400, 1600]⟩
abbrev S64x1600 : Shape := ⟨2, ![64, 1600]⟩
abbrev S8 : Shape := ⟨1, ![8]⟩
abbrev S1x8 : Shape := ⟨2, ![1, 8]⟩
abbrev S1x1 : Shape := ⟨2, ![1, 1]⟩
abbrev S64x1x400 : Shape := ⟨3, ![64, 1, 400]⟩
abbrev S1x8x1 : Shape := ⟨3, ![1, 8, 1]⟩
abbrev S64x8x400 : Shape := ⟨3, ![64, 8, 400]⟩
abbrev S64x32x400 : Shape := ⟨3, ![64, 32, 400]⟩
abbrev S32x64x400 : Shape := ⟨3, ![32, 64, 400]⟩
abbrev S256x1x8 : Shape := ⟨3, ![256, 1, 8]⟩
abbrev S1x32x8x400 : Shape := ⟨4, ![1, 32, 8, 400]⟩
abbrev S1x8x400 : Shape := ⟨3, ![1, 8, 400]⟩
abbrev S1x1x8 : Shape := ⟨3, ![1, 1, 8]⟩
abbrev S32x8x400 : Shape := ⟨3, ![32, 8, 400]⟩
abbrev S400x1 : Shape := ⟨2, ![400, 1]⟩
abbrev S32x1x400 : Shape := ⟨3, ![32, 1, 400]⟩
abbrev S32x400 : Shape := ⟨2, ![32, 400]⟩
abbrev S33x400 : Shape := ⟨2, ![33, 400]⟩
abbrev S8x256 : Shape := ⟨2, ![8, 256]⟩
abbrev S256x8 : Shape := ⟨2, ![256, 8]⟩
abbrev S1x128 : Shape := ⟨2, ![1, 128]⟩
abbrev S256x1 : Shape := ⟨2, ![256, 1]⟩
abbrev S256x128 : Shape := ⟨2, ![256, 128]⟩

abbrev nBuf : Space → Nat
  | .hbm => 34
  | .vmem => 44
  | .smem => 0
  | _ => 0

abbrev bufTy : (tb : Table) → Fin (tcTables nBuf tb) → BufTy
  | .hbm, ⟨0, _⟩ => ⟨S256x5000, .f32⟩
  | .hbm, ⟨1, _⟩ => ⟨S8x2x1600, .i32⟩
  | .hbm, ⟨2, _⟩ => ⟨S8x400, .i32⟩
  | .hbm, ⟨3, _⟩ => ⟨S1x32, .f32⟩
  | .hbm, ⟨4, _⟩ => ⟨S4x8, .f32⟩
  | .hbm, ⟨5, _⟩ => ⟨S4x8, .f32⟩
  | .hbm, ⟨6, _⟩ => ⟨S32, .f32⟩
  | .hbm, ⟨7, _⟩ => ⟨S32x32, .f32⟩
  | .hbm, ⟨8, _⟩ => ⟨S1x32, .f32⟩
  | .hbm, ⟨9, _⟩ => ⟨S1x32, .f32⟩
  | .hbm, ⟨10, _⟩ => ⟨S32, .f32⟩
  | .hbm, ⟨11, _⟩ => ⟨S32x1, .f32⟩
  | .hbm, ⟨12, _⟩ => ⟨S1, .f32⟩
  | .hbm, ⟨13, _⟩ => ⟨S8x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x1, .f32⟩
  | .hbm, ⟨18, _⟩ => ⟨S1, .f32⟩
  | .hbm, ⟨19, _⟩ => ⟨S8x1x400, .i32⟩
  | .hbm, ⟨20, _⟩ => ⟨S8x400x400, .f32⟩
  | .hbm, ⟨21, _⟩ => ⟨S1x32, .f32⟩
  | .hbm, ⟨22, _⟩ => ⟨S8x32x256x400, .f32⟩
  | .hbm, ⟨23, _⟩ => ⟨S8x256x400, .f32⟩
  | .hbm, ⟨24, _⟩ => ⟨S8x256x400, .f32⟩
  | .hbm, ⟨25, _⟩ => ⟨S1x32, .f32⟩
  | .hbm, ⟨26, _⟩ => ⟨S1x1, .f32⟩
  | .hbm, ⟨27, _⟩ => ⟨S256x1x8, .f32⟩
  | .hbm, ⟨28, _⟩ => ⟨S8x256, .f32⟩
  | .hbm, ⟨29, _⟩ => ⟨S256x8, .f32⟩
  | .hbm, ⟨30, _⟩ => ⟨S1x128, .f32⟩
  | .hbm, ⟨31, _⟩ => ⟨S1x128, .f32⟩
  | .hbm, ⟨32, _⟩ => ⟨S1x1, .f32⟩
  | .hbm, ⟨33, _⟩ => ⟨S256x1, .f32⟩
  | .local _ .vmem, ⟨0, _⟩ => ⟨S1x2x1600, .i32⟩
  | .local _ .vmem, ⟨1, _⟩ => ⟨S1x2x1600, .i32⟩
  | .local _ .vmem, ⟨2, _⟩ => ⟨S1x400x400, .f32⟩
  | .local _ .vmem, ⟨3, _⟩ => ⟨S1x400x400, .f32⟩
  | .local _ .vmem, ⟨4, _⟩ => ⟨S64x5000, .f32⟩
  | .local _ .vmem, ⟨5, _⟩ => ⟨S64x5000, .f32⟩
  | .local _ .vmem, ⟨6, _⟩ => ⟨S1x1x400, .i32⟩
  | .local _ .vmem, ⟨7, _⟩ => ⟨S1x1x400, .i32⟩
  | .local _ .vmem, ⟨8, _⟩ => ⟨S1x2x1600, .i32⟩
  | .local _ .vmem, ⟨9, _⟩ => ⟨S1x2x1600, .i32⟩
  | .local _ .vmem, ⟨10, _⟩ => ⟨S1x32, .f32⟩
  | .local _ .vmem, ⟨11, _⟩ => ⟨S4x8, .f32⟩
  | .local _ .vmem, ⟨12, _⟩ => ⟨S4x8, .f32⟩
  | .local _ .vmem, ⟨13, _⟩ => ⟨S1x32, .f32⟩
  | .local _ .vmem, ⟨14, _⟩ => ⟨S32x32, .f32⟩
  | .local _ .vmem, ⟨15, _⟩ => ⟨S1x32, .f32⟩
  | .local _ .vmem, ⟨16, _⟩ => ⟨S1x32, .f32⟩
  | .local _ .vmem, ⟨17, _⟩ => ⟨S1x32x64x400, .f32⟩
  | .local _ .vmem, ⟨18, _⟩ => ⟨S1x32x64x400, .f32⟩
  | .local _ .vmem, ⟨19, _⟩ => ⟨S1x64x400, .f32⟩
  | .local _ .vmem, ⟨20, _⟩ => ⟨S1x64x400, .f32⟩
  | .local _ .vmem, ⟨21, _⟩ => ⟨S1x64x400, .f32⟩
  | .local _ .vmem, ⟨22, _⟩ => ⟨S1x64x400, .f32⟩
  | .local _ .vmem, ⟨23, _⟩ => ⟨S1x400x400, .f32⟩
  | .local _ .vmem, ⟨24, _⟩ => ⟨S1x400x400, .f32⟩
  | .local _ .vmem, ⟨25, _⟩ => ⟨S1x32x8x400, .f32⟩
  | .local _ .vmem, ⟨26, _⟩ => ⟨S1x32x8x400, .f32⟩
  | .local _ .vmem, ⟨27, _⟩ => ⟨S1x8x400, .f32⟩
  | .local _ .vmem, ⟨28, _⟩ => ⟨S1x8x400, .f32⟩
  | .local _ .vmem, ⟨29, _⟩ => ⟨S1x8x400, .f32⟩
  | .local _ .vmem, ⟨30, _⟩ => ⟨S1x8x400, .f32⟩
  | .local _ .vmem, ⟨31, _⟩ => ⟨S1x32, .f32⟩
  | .local _ .vmem, ⟨32, _⟩ => ⟨S32x1, .f32⟩
  | .local _ .vmem, ⟨33, _⟩ => ⟨S1x1, .f32⟩
  | .local _ .vmem, ⟨34, _⟩ => ⟨S1x1x8, .f32⟩
  | .local _ .vmem, ⟨35, _⟩ => ⟨S1x1x8, .f32⟩
  | .local _ .vmem, ⟨36, _⟩ => ⟨S256x8, .f32⟩
  | .local _ .vmem, ⟨37, _⟩ => ⟨S8x128, .f32⟩
  | .local _ .vmem, ⟨38, _⟩ => ⟨S1x128, .f32⟩
  | .local _ .vmem, ⟨39, _⟩ => ⟨S128x128, .f32⟩
  | .local _ .vmem, ⟨40, _⟩ => ⟨S1x128, .f32⟩
  | .local _ .vmem, ⟨41, _⟩ => ⟨S128x1, .f32⟩
  | .local _ .vmem, ⟨42, _⟩ => ⟨S1x1, .f32⟩
  | .local _ .vmem, ⟨43, _⟩ => ⟨S256x1, .f32⟩
  | _, _ => ⟨S256x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3_0 : Ref sig .tc := ⟨.hbm, 22, rfl⟩
abbrev main_v3_1 : Ref sig .tc := ⟨.hbm, 23, rfl⟩
abbrev main_v3_2 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg10_1 : Ref sig .tc := ⟨.vmem, 18, rfl⟩
abbrev cc1_stg11_0 : Ref sig .tc := ⟨.vmem, 19, rfl⟩
abbrev cc1_stg11_1 : Ref sig .tc := ⟨.vmem, 20, rfl⟩
abbrev cc1_stg12_0 : Ref sig .tc := ⟨.vmem, 21, rfl⟩
abbrev cc1_stg12_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc3_stg0_0 : Ref sig .tc := ⟨.vmem, 36, rfl⟩
abbrev cc3_stg1_0 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg7_0 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem10_1 : DmaSem sig := 18
abbrev cc1_sem11_0 : DmaSem sig := 19
abbrev cc1_sem11_1 : DmaSem sig := 20
abbrev cc1_sem12_0 : DmaSem sig := 21
abbrev cc1_sem12_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35
abbrev cc3_sem0_0 : DmaSem sig := 36
abbrev cc3_sem1_0 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem7_0 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x1600 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x400x400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S64x5000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1x400 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2x1600 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S4x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S4x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S32x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S1x32x64x400 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x64x400 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x64x400 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev grid2 : Pipeline.Grid := ⟨2, ![8, 32], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage2_0 : Fin 2 → Memref sig .tc .vmem S1x400x400 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x32x8x400 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x8x400 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x8x400 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S32x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1x1x8 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev grid3 : Pipeline.Grid := .none

abbrev stage3_0 : Fin 1 → Memref sig .tc .vmem S256x8 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S8x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S256x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
-- ==== ReferenceIdeal.lean ====
abbrev S256x5000 : Shape := ⟨2, ![256, 5000]⟩
abbrev S8x2x1600 : Shape := ⟨3, ![8, 2, 1600]⟩
abbrev S8x400 : Shape := ⟨2, ![8, 400]⟩
abbrev S1x32 : Shape := ⟨2, ![1, 32]⟩
abbrev S4x8 : Shape := ⟨2, ![4, 8]⟩
abbrev S32 : Shape := ⟨1, ![32]⟩
abbrev S32x32 : Shape := ⟨2, ![32, 32]⟩
abbrev S32x1 : Shape := ⟨2, ![32, 1]⟩
abbrev S1 : Shape := ⟨1, ![1]⟩
abbrev S8x128 : Shape := ⟨2, ![8, 128]⟩
abbrev S128 : Shape := ⟨1, ![128]⟩
abbrev S128x128 : Shape := ⟨2, ![128, 128]⟩
abbrev S128x1 : Shape := ⟨2, ![128, 1]⟩
abbrev S2048 : Shape := ⟨1, ![2048]⟩
abbrev S_ : Shape := ⟨0, ![]⟩
abbrev S8x256x1 : Shape := ⟨3, ![8, 256, 1]⟩
abbrev S8x400x1 : Shape := ⟨3, ![8, 400, 1]⟩
abbrev S256x8x400 : Shape := ⟨3, ![256, 8, 400]⟩
abbrev S8x256x400 : Shape := ⟨3, ![8, 256, 400]⟩
abbrev S819200x1 : Shape := ⟨2, ![819200, 1]⟩
abbrev S8x1x1600 : Shape := ⟨3, ![8, 1, 1600]⟩
abbrev S8x1600 : Shape := ⟨2, ![8, 1600]⟩
abbrev S8x256x1600 : Shape := ⟨3, ![8, 256, 1600]⟩
abbrev S3276800 : Shape := ⟨1, ![3276800]⟩
abbrev S819200 : Shape := ⟨1, ![819200]⟩
abbrev S4096000 : Shape := ⟨1, ![4096000]⟩
abbrev S819200x32 : Shape := ⟨2, ![819200, 32]⟩
abbrev S819200x4x8 : Shape := ⟨3, ![819200, 4, 8]⟩
abbrev S1x4x8 : Shape := ⟨3, ![1, 4, 8]⟩
abbrev S819200x4 : Shape := ⟨2, ![819200, 4]⟩
abbrev S4096000x1 : Shape := ⟨2, ![4096000, 1]⟩
abbrev S4096000x4 : Shape := ⟨2, ![4096000, 4]⟩
abbrev S4096000x4x8 : Shape := ⟨3, ![4096000, 4, 8]⟩
abbrev S4096000x4x1 : Shape := ⟨3, ![4096000, 4, 1]⟩
abbrev S819200x1x32 : Shape := ⟨3, ![819200, 1, 32]⟩
abbrev S1x1x32 : Shape := ⟨3, ![1, 1, 32]⟩
abbrev S4096000x1x32 : Shape := ⟨3, ![4096000, 1, 32]⟩
abbrev S4096000x1x1 : Shape := ⟨3, ![4096000, 1, 1]⟩
abbrev S2048x400x32 : Shape := ⟨3, ![2048, 400, 32]⟩
abbrev S2048x32 : Shape := ⟨2, ![2048, 32]⟩
abbrev S2048x1 : Shape := ⟨2, ![2048, 1]⟩
abbrev S1x1 : Shape := ⟨2, ![1, 1]⟩
abbrev S8x256 : Shape := ⟨2, ![8, 256]⟩
abbrev S256x8 : Shape := ⟨2, ![256, 8]⟩
abbrev S256x128 : Shape := ⟨2, ![256, 128]⟩
abbrev S1x128 : Shape := ⟨2, ![1, 128]⟩
abbrev S256x1 : Shape := ⟨2, ![256, 1]⟩

abbrev nBuf : Space → Nat
  | .hbm => 245
  | .vmem => 0
  | .smem => 0
  | _ => 0

abbrev hbmTy0_0 (i : Nat) : BufTy := match i % 128 with
  | 0 => ⟨S256x5000, .f32⟩
  | 1 => ⟨S8x2x1600, .i32⟩
  | 2 => ⟨S8x400, .i32⟩
  | 3 => ⟨S1x32, .f32⟩
  | 4 => ⟨S4x8, .f32⟩
  | 5 => ⟨S4x8, .f32⟩
  | 6 => ⟨S32, .f32⟩
  | 7 => ⟨S32x32, .f32⟩
  | 8 => ⟨S1x32, .f32⟩
  | 9 => ⟨S1x32, .f32⟩
  | 10 => ⟨S32, .f32⟩
  | 11 => ⟨S32x1, .f32⟩
  | 12 => ⟨S1, .f32⟩
  | 13 => ⟨S8x128, .f32⟩
  | 14 => ⟨S128, .f32⟩
  | 15 => ⟨S128x128, .f32⟩
  | 16 => ⟨S128, .f32⟩
  | 17 => ⟨S128x1, .f32⟩
  | 18 => ⟨S1, .f32⟩
  | 19 => ⟨S2048, .i32⟩
  | 20 => ⟨S_, .i32⟩
  | 21 => ⟨S2048, .i32⟩
  | 22 => ⟨S2048, .i32⟩
  | 23 => ⟨S8x256x1, .i32⟩
  | 24 => ⟨S_, .i32⟩
  | 25 => ⟨S8x400, .i32⟩
  | 26 => ⟨S8x400, .i1⟩
  | 27 => ⟨S_, .i32⟩
  | 28 => ⟨S8x400, .i32⟩
  | 29 => ⟨S8x400, .i32⟩
  | 30 => ⟨S8x400, .i32⟩
  | 31 => ⟨S8x400x1, .i32⟩
  | 32 => ⟨S256x8x400, .f32⟩
  | 33 => ⟨S8x256x400, .f32⟩
  | 34 => ⟨S819200x1, .f32⟩
  | 35 => ⟨S8x1x1600, .i32⟩
  | 36 => ⟨S8x1600, .i32⟩
  | 37 => ⟨S8x1x1600, .i32⟩
  | 38 => ⟨S8x256x1600, .i32⟩
  | 39 => ⟨S8x256x1600, .i32⟩
  | 40 => ⟨S8x256x1600, .i32⟩
  | 41 => ⟨S3276800, .i32⟩
  | 42 => ⟨S8x1x1600, .i32⟩
  | 43 => ⟨S8x1600, .i32⟩
  | 44 => ⟨S8x1x1600, .i32⟩
  | 45 => ⟨S8x256x1600, .i32⟩
  | 46 => ⟨S8x256x1600, .i32⟩
  | 47 => ⟨S8x256x1600, .i32⟩
  | 48 => ⟨S3276800, .i32⟩
  | 49 => ⟨S819200, .i32⟩
  | 50 => ⟨S4096000, .i32⟩
  | 51 => ⟨S4096000, .i32⟩
  | 52 => ⟨S819200x32, .f32⟩
  | 53 => ⟨S819200x4x8, .f32⟩
  | 54 => ⟨S1x4x8, .f32⟩
  | 55 => ⟨S819200x4x8, .f32⟩
  | 56 => ⟨S819200x4x8, .f32⟩
  | 57 => ⟨S_, .f32⟩
  | 58 => ⟨S819200x4, .f32⟩
  | 59 => ⟨S1x4x8, .f32⟩
  | 60 => ⟨S819200x4x8, .f32⟩
  | 61 => ⟨S819200x4x8, .f32⟩
  | 62 => ⟨S_, .f32⟩
  | 63 => ⟨S819200x4, .f32⟩
  | 64 => ⟨S_, .i32⟩
  | 65 => ⟨S4096000, .i32⟩
  | 66 => ⟨S4096000, .i1⟩
  | 67 => ⟨S_, .i32⟩
  | 68 => ⟨S4096000, .i32⟩
  | 69 => ⟨S4096000, .i32⟩
  | 70 => ⟨S4096000, .i32⟩
  | 71 => ⟨S4096000x1, .i32⟩
  | 72 => ⟨S4096000x4, .f32⟩
  | 73 => ⟨S_, .i32⟩
  | 74 => ⟨S4096000, .i32⟩
  | 75 => ⟨S4096000, .i1⟩
  | 76 => ⟨S_, .i32⟩
  | 77 => ⟨S4096000, .i32⟩
  | 78 => ⟨S4096000, .i32⟩
  | 79 => ⟨S4096000, .i32⟩
  | 80 => ⟨S4096000x1, .i32⟩
  | 81 => ⟨S4096000x4, .f32⟩
  | 82 => ⟨S4096000x4, .f32⟩
  | 83 => ⟨S_, .f32⟩
  | 84 => ⟨S_, .f32⟩
  | 85 => ⟨S4096000x4, .f32⟩
  | 86 => ⟨S4096000x4, .i1⟩
  | 87 => ⟨S_, .f32⟩
  | 88 => ⟨S4096000x4, .f32⟩
  | 89 => ⟨S4096000x4, .f32⟩
  | 90 => ⟨S4096000x4, .f32⟩
  | 91 => ⟨S4096000x4, .f32⟩
  | 92 => ⟨S_, .f32⟩
  | 93 => ⟨S819200x4, .f32⟩
  | 94 => ⟨S4096000x1, .i32⟩
  | 95 => ⟨S819200x4, .f32⟩
  | 96 => ⟨S_, .i32⟩
  | 97 => ⟨S4096000, .i32⟩
  | 98 => ⟨S4096000, .i1⟩
  | 99 => ⟨S_, .i32⟩
  | 100 => ⟨S4096000, .i32⟩
  | 101 => ⟨S4096000, .i32⟩
  | 102 => ⟨S4096000, .i32⟩
  | 103 => ⟨S4096000x1, .i32⟩
  | 104 => ⟨S4096000x4, .f32⟩
  | 105 => ⟨S_, .f32⟩
  | 106 => ⟨S4096000x4, .f32⟩
  | 107 => ⟨S4096000x4, .f32⟩
  | 108 => ⟨S4096000x4, .f32⟩
  | 109 => ⟨S_, .i32⟩
  | 110 => ⟨S4096000, .i32⟩
  | 111 => ⟨S4096000, .i1⟩
  | 112 => ⟨S_, .i32⟩
  | 113 => ⟨S4096000, .i32⟩
  | 114 => ⟨S4096000, .i32⟩
  | 115 => ⟨S4096000, .i32⟩
  | 116 => ⟨S4096000x1, .i32⟩
  | 117 => ⟨S4096000x4x8, .f32⟩
  | 118 => ⟨S4096000x4x1, .f32⟩
  | 119 => ⟨S4096000x4x8, .f32⟩
  | 120 => ⟨S4096000x4x8, .f32⟩
  | 121 => ⟨S_, .f32⟩
  | 122 => ⟨S819200x4x8, .f32⟩
  | 123 => ⟨S4096000x1, .i32⟩
  | 124 => ⟨S819200x4x8, .f32⟩
  | 125 => ⟨S819200x32, .f32⟩
  | 126 => ⟨S1x32, .f32⟩
  | 127 => ⟨S819200x32, .f32⟩
  | _ => ⟨S256x5000, .f32⟩

abbrev hbmTy0_1 (i : Nat) : BufTy := match i % 128 with
  | 0 => ⟨S819200x32, .f32⟩
  | 1 => ⟨S_, .f32⟩
  | 2 => ⟨S819200x32, .f32⟩
  | 3 => ⟨S819200x32, .f32⟩
  | 4 => ⟨S819200, .i32⟩
  | 5 => ⟨S4096000, .i32⟩
  | 6 => ⟨S4096000, .i32⟩
  | 7 => ⟨S819200x32, .f32⟩
  | 8 => ⟨S819200x1x32, .f32⟩
  | 9 => ⟨S1x1x32, .f32⟩
  | 10 => ⟨S819200x1x32, .f32⟩
  | 11 => ⟨S819200x1x32, .f32⟩
  | 12 => ⟨S_, .f32⟩
  | 13 => ⟨S819200x1, .f32⟩
  | 14 => ⟨S1x1x32, .f32⟩
  | 15 => ⟨S819200x1x32, .f32⟩
  | 16 => ⟨S819200x1x32, .f32⟩
  | 17 => ⟨S_, .f32⟩
  | 18 => ⟨S819200x1, .f32⟩
  | 19 => ⟨S_, .i32⟩
  | 20 => ⟨S4096000, .i32⟩
  | 21 => ⟨S4096000, .i1⟩
  | 22 => ⟨S_, .i32⟩
  | 23 => ⟨S4096000, .i32⟩
  | 24 => ⟨S4096000, .i32⟩
  | 25 => ⟨S4096000, .i32⟩
  | 26 => ⟨S4096000x1, .i32⟩
  | 27 => ⟨S4096000x1, .f32⟩
  | 28 => ⟨S_, .i32⟩
  | 29 => ⟨S4096000, .i32⟩
  | 30 => ⟨S4096000, .i1⟩
  | 31 => ⟨S_, .i32⟩
  | 32 => ⟨S4096000, .i32⟩
  | 33 => ⟨S4096000, .i32⟩
  | 34 => ⟨S4096000, .i32⟩
  | 35 => ⟨S4096000x1, .i32⟩
  | 36 => ⟨S4096000x1, .f32⟩
  | 37 => ⟨S4096000x1, .f32⟩
  | 38 => ⟨S_, .f32⟩
  | 39 => ⟨S_, .f32⟩
  | 40 => ⟨S4096000x1, .f32⟩
  | 41 => ⟨S4096000x1, .i1⟩
  | 42 => ⟨S_, .f32⟩
  | 43 => ⟨S4096000x1, .f32⟩
  | 44 => ⟨S4096000x1, .f32⟩
  | 45 => ⟨S4096000x1, .f32⟩
  | 46 => ⟨S4096000x1, .f32⟩
  | 47 => ⟨S_, .f32⟩
  | 48 => ⟨S819200x1, .f32⟩
  | 49 => ⟨S4096000x1, .i32⟩
  | 50 => ⟨S819200x1, .f32⟩
  | 51 => ⟨S_, .i32⟩
  | 52 => ⟨S4096000, .i32⟩
  | 53 => ⟨S4096000, .i1⟩
  | 54 => ⟨S_, .i32⟩
  | 55 => ⟨S4096000, .i32⟩
  | 56 => ⟨S4096000, .i32⟩
  | 57 => ⟨S4096000, .i32⟩
  | 58 => ⟨S4096000x1, .i32⟩
  | 59 => ⟨S4096000x1, .f32⟩
  | 60 => ⟨S_, .f32⟩
  | 61 => ⟨S4096000x1, .f32⟩
  | 62 => ⟨S4096000x1, .f32⟩
  | 63 => ⟨S4096000x1, .f32⟩
  | 64 => ⟨S_, .i32⟩
  | 65 => ⟨S4096000, .i32⟩
  | 66 => ⟨S4096000, .i1⟩
  | 67 => ⟨S_, .i32⟩
  | 68 => ⟨S4096000, .i32⟩
  | 69 => ⟨S4096000, .i32⟩
  | 70 => ⟨S4096000, .i32⟩
  | 71 => ⟨S4096000x1, .i32⟩
  | 72 => ⟨S4096000x1x32, .f32⟩
  | 73 => ⟨S4096000x1x1, .f32⟩
  | 74 => ⟨S4096000x1x32, .f32⟩
  | 75 => ⟨S4096000x1x32, .f32⟩
  | 76 => ⟨S_, .f32⟩
  | 77 => ⟨S819200x1x32, .f32⟩
  | 78 => ⟨S4096000x1, .i32⟩
  | 79 => ⟨S819200x1x32, .f32⟩
  | 80 => ⟨S819200x32, .f32⟩
  | 81 => ⟨S1x32, .f32⟩
  | 82 => ⟨S819200x32, .f32⟩
  | 83 => ⟨S819200x32, .f32⟩
  | 84 => ⟨S_, .f32⟩
  | 85 => ⟨S819200x32, .f32⟩
  | 86 => ⟨S819200x32, .f32⟩
  | 87 => ⟨S2048x400x32, .f32⟩
  | 88 => ⟨S_, .f32⟩
  | 89 => ⟨S2048x32, .f32⟩
  | 90 => ⟨S_, .f32⟩
  | 91 => ⟨S2048x32, .f32⟩
  | 92 => ⟨S2048x32, .f32⟩
  | 93 => ⟨S2048x1, .f32⟩
  | 94 => ⟨S1x1, .f32⟩
  | 95 => ⟨S2048x1, .f32⟩
  | 96 => ⟨S2048x1, .f32⟩
  | 97 => ⟨S8x256, .f32⟩
  | 98 => ⟨S256x8, .f32⟩
  | 99 => ⟨S256x128, .f32⟩
  | 100 => ⟨S1x128, .f32⟩
  | 101 => ⟨S256x128, .f32⟩
  | 102 => ⟨S256x128, .f32⟩
  | 103 => ⟨S_, .f32⟩
  | 104 => ⟨S256x128, .f32⟩
  | 105 => ⟨S256x128, .f32⟩
  | 106 => ⟨S256x128, .f32⟩
  | 107 => ⟨S1x128, .f32⟩
  | 108 => ⟨S256x128, .f32⟩
  | 109 => ⟨S256x128, .f32⟩
  | 110 => ⟨S_, .f32⟩
  | 111 => ⟨S256x128, .f32⟩
  | 112 => ⟨S256x128, .f32⟩
  | 113 => ⟨S256x1, .f32⟩
  | 114 => ⟨S1x1, .f32⟩
  | 115 => ⟨S256x1, .f32⟩
  | 116 => ⟨S256x1, .f32⟩
  | _ => ⟨S256x5000, .f32⟩

abbrev hbmTy (i : Nat) : BufTy := match i / 128 with
  | 0 => hbmTy0_0 i
  | 1 => hbmTy0_1 i
  | _ => ⟨S256x5000, .f32⟩

abbrev bufTy : (tb : Table) → Fin (tcTables nBuf tb) → BufTy
  | .hbm, ⟨i, _⟩ => hbmTy i
  | _, _ => ⟨S256x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_v4 : Ref sig .tc := ⟨.hbm, 25, rfl⟩
abbrev main_v5 : Ref sig .tc := ⟨.hbm, 26, rfl⟩
abbrev main_c_1 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_2 : Ref sig .tc := ⟨.hbm, 62, rfl⟩
abbrev main_v39 : Ref sig .tc := ⟨.hbm, 63, rfl⟩
abbrev main_c_3 : Ref sig .tc := ⟨.hbm, 64, rfl⟩
abbrev main_v40 : Ref sig .tc := ⟨.hbm, 65, rfl⟩
abbrev main_v41 : Ref sig .tc := ⟨.hbm, 66, rfl⟩
abbrev main_c_4 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_5 : Ref sig .tc := ⟨.hbm, 73, rfl⟩
abbrev main_v47 : Ref sig .tc := ⟨.hbm, 74, rfl⟩
abbrev main_v48 : Ref sig .tc := ⟨.hbm, 75, rfl⟩
abbrev main_c_6 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_7 : Ref sig .tc := ⟨.hbm, 83, rfl⟩
abbrev main_call0_cst : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_v55 : Ref sig .tc := ⟨.hbm, 90, rfl⟩
abbrev main_v56 : Ref sig .tc := ⟨.hbm, 91, rfl⟩
abbrev main_cst_8 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_c_9 : Ref sig .tc := ⟨.hbm, 96, rfl⟩
abbrev main_v60 : Ref sig .tc := ⟨.hbm, 97, rfl⟩
abbrev main_v61 : Ref sig .tc := ⟨.hbm, 98, rfl⟩
abbrev main_c_10 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_11 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_c_12 : Ref sig .tc := ⟨.hbm, 109, rfl⟩
abbrev main_v70 : Ref sig .tc := ⟨.hbm, 110, rfl⟩
abbrev main_v71 : Ref sig .tc := ⟨.hbm, 111, rfl⟩
abbrev main_c_13 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_14 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_call1_cst : Ref sig .tc := ⟨.hbm, 129, rfl⟩
abbrev main_call1_v0 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_15 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_16 : Ref sig .tc := ⟨.hbm, 145, rfl⟩
abbrev main_v100 : Ref sig .tc := ⟨.hbm, 146, rfl⟩
abbrev main_c_17 : Ref sig .tc := ⟨.hbm, 147, rfl⟩
abbrev main_v101 : Ref sig .tc := ⟨.hbm, 148, rfl⟩
abbrev main_v102 : Ref sig .tc := ⟨.hbm, 149, rfl⟩
abbrev main_c_18 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_c_19 : Ref sig .tc := ⟨.hbm, 156, rfl⟩
abbrev main_v108 : Ref sig .tc := ⟨.hbm, 157, rfl⟩
abbrev main_v109 : Ref sig .tc := ⟨.hbm, 158, rfl⟩
abbrev main_c_20 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_21 : Ref sig .tc := ⟨.hbm, 166, rfl⟩
abbrev main_call2_cst : Ref sig .tc := ⟨.hbm, 167, rfl⟩
abbrev main_call2_v0 : Ref sig .tc := ⟨.hbm, 168, rfl⟩
abbrev main_call2_v1 : Ref sig .tc := ⟨.hbm, 169, rfl⟩
abbrev main_call2_v2 : Ref sig .tc := ⟨.hbm, 170, rfl⟩
abbrev main_call2_v3 : Ref sig .tc := ⟨.hbm, 171, rfl⟩
abbrev main_call2_v4 : Ref sig .tc := ⟨.hbm, 172, rfl⟩
abbrev main_v116 : Ref sig .tc := ⟨.hbm, 173, rfl⟩
abbrev main_v117 : Ref sig .tc := ⟨.hbm, 174, rfl⟩
abbrev main_cst_22 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_c_23 : Ref sig .tc := ⟨.hbm, 179, rfl⟩
abbrev main_v121 : Ref sig .tc := ⟨.hbm, 180, rfl⟩
abbrev main_v122 : Ref sig .tc := ⟨.hbm, 181, rfl⟩
abbrev main_c_24 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_cst_25 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_c_26 : Ref sig .tc := ⟨.hbm, 192, rfl⟩
abbrev main_v131 : Ref sig .tc := ⟨.hbm, 193, rfl⟩
abbrev main_v132 : Ref sig .tc := ⟨.hbm, 194, rfl⟩
abbrev main_c_27 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_cst_28 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_call3_cst : Ref sig .tc := ⟨.hbm, 212, rfl⟩
abbrev main_call3_v0 : Ref sig .tc := ⟨.hbm, 213, rfl⟩
abbrev main_v148 : Ref sig .tc := ⟨.hbm, 214, rfl⟩
abbrev main_v149 : Ref sig .tc := ⟨.hbm, 215, rfl⟩
abbrev main_cst_29 : Ref sig .tc := ⟨.hbm, 216, rfl⟩
abbrev main_v150 : Ref sig .tc := ⟨.hbm, 217, rfl⟩
abbrev main_cst_30 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_call4_cst : Ref sig .tc := ⟨.hbm, 231, rfl⟩
abbrev main_call4_v0 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_call5_cst : Ref sig .tc := ⟨.hbm, 238, rfl⟩
abbrev main_call5_v0 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩

abbrev nD : Nat := 1
abbrev τ : Topo := Topo.v7x

variable {F : FTy → Type} [FloatOps F]
-- ==== Proof.Frames.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace Cert.Proof

open Idealize.ShloMosaic Idealize.SL.Sem

/-- The kernel at machine floats terminates from every memory with zero counters, leaves its arguments as they were
    and every counter at zero. -/
theorem kernelFrame : Cert.quiescent_Kernel (hKernel := Cert.Kernel.Gen.facts) := fun m ρ _ => Cert.Kernel.Gen.frame m ρ

/-- The kernel at extended reals terminates from every memory with zero counters, leaves its arguments as they were
    and every counter at zero. -/
theorem kernelIdealFrame : Cert.quiescent_KernelIdeal (hKernelIdeal := Cert.KernelIdeal.Gen.facts) :=
  fun m ρ _ => Cert.KernelIdeal.Gen.frame m ρ

/-- The reference at extended reals terminates from every memory with zero counters, leaves its arguments as they were
    and every counter at zero (it declares none). -/
theorem referenceIdealFrame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.Spec.lean ====
module

public import Idealize.ShloMosaic.PureOps.Ideal.Laws
public import Idealize.ShloMosaic.Lib.ValueIdx

@[expose] public section

noncomputable section

/-!
# The network over one graph, twice

One graph has 400 nodes and 1600 directed edges, and every node has one feature. Two layers of graph attention, a mean
over the nodes and one linear output follow. This file states the network over extended reals in the two orders of
computation that matter, `Gat.kVal` (attention by dense matrices, the first layer factored through its one feature) and
`Gat.rVal` (attention edge by edge).
-/

namespace Cert.Gat

open Idealize.ShloMosaic

/-- The guard added to every attention denominator, `1e-16` as a 32-bit float. -/
def eps : EReal := Ideal.ofBits .f32 0x24E69595#32
/-- The slope of the leaky rectifier, `0.2` as a 32-bit float. -/
def slope : EReal := Ideal.ofBits .f32 0x3E4CCCCD#32
/-- The number of nodes, `400` as a 32-bit float. -/
def nodes : EReal := Ideal.ofBits .f32 0x43C80000#32

/-- The leaky rectifier. -/
def lrelu (t : EReal) : EReal := if 0 ≤ t then t else slope * t
/-- An attention weight before it is normalised: the exponential of the rectified score. -/
def att (t : EReal) : EReal := Ideal.exp (lrelu t)
/-- One where `p` holds, zero where it does not. -/
def ind (p : Prop) [Decidable p] : EReal := if p then 1 else 0

/-- Channel `j` of head `h` among the 32 channels. -/
def chan (h : Fin 4) (j : Fin 8) : Fin 32 := ⟨8 * h.val + j.val, by omega⟩
/-- The head of a channel. -/
def headOf (c : Fin 32) : Fin 4 := ⟨c.val / 8, by omega⟩

/-- The network's parameters. -/
structure Params where
  w1 : Fin 32 → EReal
  as1 : Fin 4 → Fin 8 → EReal
  ad1 : Fin 4 → Fin 8 → EReal
  b1 : Fin 32 → EReal
  w2 : Fin 32 → Fin 32 → EReal
  as2 : Fin 32 → EReal
  ad2 : Fin 32 → EReal
  b2 : Fin 32 → EReal
  fcw : Fin 32 → EReal
  fcb : EReal

/-- One graph with its node features. -/
structure Graph where
  src : Fin 1600 → Fin 400
  dst : Fin 1600 → Fin 400
  z : Fin 400 → EReal

/-- The mean over the nodes of the rectified features, through one linear output. -/
def fcOut (P : Params) (res : Fin 32 → Fin 400 → EReal) : EReal :=
  (∑ d, Ideal.div (∑ j, res d j) nodes * P.fcw d) + P.fcb

section Dense

variable (G : Graph) (P : Params)

/-- Head `h`'s attention coefficient of the one feature. -/
def kC (a : Fin 4 → Fin 8 → EReal) (h : Fin 4) : EReal := ∑ j, P.w1 (chan h j) * a h j
/-- Head `h`'s weight of edge `e`. -/
def kEx (h : Fin 4) (e : Fin 1600) : EReal := att (kC P P.as1 h * G.z (G.src e) + kC P P.ad1 h * G.z (G.dst e))
/-- Head `h`'s weight of node `n`'s own loop. -/
def kExs (h : Fin 4) (n : Fin 400) : EReal := att ((kC P P.as1 h + kC P P.ad1 h) * G.z n)
/-- Head `h`'s sum of weights into node `n`. -/
def kDen (h : Fin 4) (n : Fin 400) : EReal := (∑ e, kEx G P h e * ind (n = G.dst e)) + kExs G P h n
/-- Head `h`'s weighted sum of features into node `n`. -/
def kNum (h : Fin 4) (n : Fin 400) : EReal := (∑ e, (kEx G P h e * G.z (G.src e)) * ind (n = G.dst e)) + kExs G P h n * G.z n
/-- The first layer's output. -/
def kH1 (c : Fin 32) (n : Fin 400) : EReal :=
  max (Ideal.div (kNum G P (headOf c) n) (kDen G P (headOf c) n + eps) * P.w1 c + P.b1 c) 0
/-- The second layer's features. -/
def kH2 (d : Fin 32) (n : Fin 400) : EReal := ∑ c, P.w2 c d * kH1 G P c n
/-- The second layer's scores, for the source or the destination vector. -/
def kA2 (a : Fin 32 → EReal) (n : Fin 400) : EReal := ∑ d, a d * kH2 G P d n
/-- How many edges, the loops counted, lead from `i` to `j`. -/
def kCt (i j : Fin 400) : EReal := (∑ e, ind (i = G.src e) * ind (j = G.dst e)) + ind (i = j)

end Dense

/-- A matrix of weights: the number of edges times the weight of one. -/
def poolAt (ct : Fin 400 → Fin 400 → EReal) (as ad : Fin 400 → EReal) (i j : Fin 400) : EReal := ct i j * att (as i + ad j)
/-- The second layer's output from the matrix of weights. -/
def poolRes (b2 : Fin 32 → EReal) (ct : Fin 400 → Fin 400 → EReal) (h : Fin 32 → Fin 400 → EReal) (as ad : Fin 400 → EReal)
    (d : Fin 32) (j : Fin 400) : EReal :=
  max (Ideal.div (∑ i, h d i * poolAt ct as ad i j) ((∑ i, 1 * poolAt ct as ad i j) + eps) + b2 d) 0

/-- The network's output on one graph, by dense matrices. -/
def kVal (G : Graph) (P : Params) : EReal :=
  fcOut P (poolRes P.b2 (kCt G) (kH2 G P) (kA2 G P P.as2) (kA2 G P P.ad2))

section Edges

/-- The sum of weights into node `n`, its own loop's last. -/
def gatDen (G : Graph) (E : Fin 400 → Fin 400 → EReal) (n : Fin 400) : EReal :=
  (∑ e with G.dst e = n, E (G.src e) (G.dst e)) + E n n
/-- The normalised sum of features into node `n`, its own loop's last. -/
def gatOut (G : Graph) (E : Fin 400 → Fin 400 → EReal) (h : Fin 400 → EReal) (n : Fin 400) : EReal :=
  (∑ e with G.dst e = n, h (G.src e) * Ideal.div (E (G.src e) (G.dst e)) (gatDen G E (G.dst e) + eps))
    + h n * Ideal.div (E n n) (gatDen G E n + eps)

variable (G : Graph) (P : Params)

/-- The first layer's features. -/
def rH (n : Fin 400) (c : Fin 32) : EReal := G.z n * P.w1 c
/-- The first layer's scores. -/
def rA (a : Fin 4 → Fin 8 → EReal) (n : Fin 400) (h : Fin 4) : EReal := ∑ j, rH G P n (chan h j) * a h j
/-- The first layer's weights. -/
def rE (h : Fin 4) (i j : Fin 400) : EReal := att (rA G P P.as1 i h + rA G P P.ad1 j h)
/-- The first layer's output. -/
def rH1 (n : Fin 400) (c : Fin 32) : EReal := max (gatOut G (rE G P (headOf c)) (fun m => rH G P m c) n + P.b1 c) 0
/-- The second layer's features. -/
def rH2 (n : Fin 400) (d : Fin 32) : EReal := ∑ c, rH1 G P n c * P.w2 c d
/-- The second layer's scores. -/
def rA2 (a : Fin 32 → EReal) (n : Fin 400) : EReal := ∑ d, rH2 G P n d * a d
/-- The second layer's weights. -/
def rE2 (i j : Fin 400) : EReal := att (rA2 G P P.as2 i + rA2 G P P.ad2 j)
/-- The second layer's output. -/
def rRes (d : Fin 32) (n : Fin 400) : EReal := max (gatOut G (rE2 G P) (fun m => rH2 G P m d) n + P.b2 d) 0
/-- The network's output on one graph, edge by edge. -/
def rVal : EReal := fcOut P (rRes G P)

end Edges

/-! ## The head of the network: three linear layers over the eight graphs' outputs -/

/-- The last three linear layers' parameters. -/
structure Mlp where
  w1 : Fin 8 → Fin 128 → EReal
  b1 : Fin 128 → EReal
  w2 : Fin 128 → Fin 128 → EReal
  b2 : Fin 128 → EReal
  w3 : Fin 128 → EReal
  b3 : EReal

/-- The last three linear layers. -/
def mlp (M : Mlp) (v : Fin 8 → EReal) : EReal :=
  (∑ l, max ((∑ k, max ((∑ g, v g * M.w1 g k) + M.b1 k) 0 * M.w2 k l) + M.b2 l) 0 * M.w3 l) + M.b3

end Cert.Gat

end
-- ==== Proof.KLib.lean ====
module

public import proofs.«01_k».proof.Proof.Spec
public import Idealize.ShloMosaic.Lib.Pointwise

@[expose] public section

noncomputable section

/-! # Words naming nodes and genes, and one-hot products -/

namespace Cert.Gat

open Idealize.ShloMosaic

/-- The node a word names. -/
def node (w : BitVec 32) : Fin 400 := ⟨w.toNat % 400, Nat.mod_lt _ (by decide)⟩
/-- The gene a word names. -/
def gene (w : BitVec 32) : Fin 5000 := ⟨w.toNat % 5000, Nat.mod_lt _ (by decide)⟩

/-- A comparison for equality, widened and converted, is the indicator. -/
theorem hot_eq (a b : BitVec 32) :
    (FloatOps.sitofp (F := Ideal) FTy.f32 (BitVec.setWidth 32 (IntOp.cmpi CmpIPredicate.eq a b)) : EReal) = ind (a = b) := by
  by_cases h : a = b
  · subst h
    have : IntOp.cmpi CmpIPredicate.eq a a = 1#1 := by simp [IntOp.cmpi]
    rw [this]
    show (((BitVec.setWidth 32 1#1).toInt : ℝ) : EReal) = _
    simp [ind]
  · have : IntOp.cmpi CmpIPredicate.eq a b = 0#1 := by
      have hb : (a == b) = false := by simpa using h
      simp [IntOp.cmpi, hb]
    rw [this]
    show (((BitVec.setWidth 32 0#1).toInt : ℝ) : EReal) = _
    simp [ind, h]

/-- Equivalent propositions have the same indicator. -/
theorem ind_congr {p q : Prop} [Decidable p] [Decidable q] (h : p ↔ q) : ind p = ind q := by
  unfold ind; by_cases hq : q
  · rw [if_pos hq, if_pos (h.2 hq)]
  · rw [if_neg hq, if_neg (fun hp => hq (h.1 hp))]

/-- A coordinate equals a word in range when it is the node the word names. -/
theorem ofNat_eq_iff (i : Fin 400) (w : BitVec 32) (hw : w.toNat < 400) : BitVec.ofNat 32 i.val = w ↔ i = node w := by
  have hi : (BitVec.ofNat 32 i.val).toNat = i.val := by
    rw [BitVec.toNat_ofNat]; exact Nat.mod_eq_of_lt (by have := i.isLt; omega)
  rw [Fin.ext_iff, ← BitVec.toNat_inj, hi]
  show _ ↔ i.val = w.toNat % 400
  rw [Nat.mod_eq_of_lt hw]

/-- Two nodes' words are equal exactly if the nodes are. -/
theorem ofNat_inj_iff (i j : Fin 400) : BitVec.ofNat 32 i.val = BitVec.ofNat 32 j.val ↔ i = j := by
  rw [Fin.ext_iff, ← BitVec.toNat_inj, BitVec.toNat_ofNat, BitVec.toNat_ofNat,
    Nat.mod_eq_of_lt (by have := i.isLt; omega), Nat.mod_eq_of_lt (by have := j.isLt; omega)]

/-- One chunk of a one-hot product over the genes: the named gene's value if it lies in the chunk. -/
theorem chunk (f : Fin 5000 → EReal) (k : ℕ) (hk : k + 1000 ≤ 5000) (w : BitVec 32) (hw : w.toNat < 5000) :
    ∑ x : Fin 1000, f ⟨k + x.val, by omega⟩ * ind (IntOp.addi (BitVec.ofNat 32 x.val) (BitVec.ofNat 32 k) = w)
      = if k ≤ w.toNat ∧ w.toNat < k + 1000 then f (gene w) else 0 := by
  have hx : ∀ x : Fin 1000, IntOp.addi (BitVec.ofNat 32 x.val) (BitVec.ofNat 32 k) = w ↔ k + x.val = w.toNat := by
    intro x
    have : (IntOp.addi (BitVec.ofNat 32 x.val) (BitVec.ofNat 32 k)).toNat = k + x.val := by
      show (BitVec.ofNat 32 x.val + BitVec.ofNat 32 k).toNat = _
      rw [BitVec.toNat_add, BitVec.toNat_ofNat, BitVec.toNat_ofNat]
      have := x.isLt
      omega
    rw [← BitVec.toNat_inj, this]
  by_cases h : k ≤ w.toNat ∧ w.toNat < k + 1000
  · rw [if_pos h, Finset.sum_eq_single ⟨w.toNat - k, by omega⟩]
    · have : IntOp.addi (BitVec.ofNat 32 (w.toNat - k)) (BitVec.ofNat 32 k) = w := (hx ⟨w.toNat - k, by omega⟩).2 (by show k + (w.toNat - k) = _; omega)
      simp only [this, ind, if_true, mul_one]
      congr 1
      refine Fin.ext ?_
      show k + (w.toNat - k) = w.toNat % 5000
      rw [Nat.mod_eq_of_lt hw]; omega
    · intro x _ hne
      have : ¬ IntOp.addi (BitVec.ofNat 32 x.val) (BitVec.ofNat 32 k) = w := fun hh => hne (Fin.ext (by
        have := (hx x).1 hh; show x.val = w.toNat - k; omega))
      simp [ind, this]
    · intro hh; exact (hh (Finset.mem_univ _)).elim
  · rw [if_neg h]
    refine Finset.sum_eq_zero fun x _ => ?_
    have : ¬ IntOp.addi (BitVec.ofNat 32 x.val) (BitVec.ofNat 32 k) = w := fun hh => h (by
      have := (hx x).1 hh; have := x.isLt; omega)
    simp [ind, this]

/-- The five chunks together: the named gene's value. -/
theorem chunks (f : Fin 5000 → EReal) (w : BitVec 32) (hw : w.toNat < 5000) :
    ((((∑ x : Fin 1000, f ⟨x.val, by omega⟩ * ind (IntOp.addi (BitVec.ofNat 32 x.val) 0#32 = w)
      + ∑ x : Fin 1000, f ⟨1000 + x.val, by omega⟩ * ind (IntOp.addi (BitVec.ofNat 32 x.val) 1000#32 = w))
      + ∑ x : Fin 1000, f ⟨2000 + x.val, by omega⟩ * ind (IntOp.addi (BitVec.ofNat 32 x.val) 2000#32 = w))
      + ∑ x : Fin 1000, f ⟨3000 + x.val, by omega⟩ * ind (IntOp.addi (BitVec.ofNat 32 x.val) 3000#32 = w))
      + ∑ x : Fin 1000, f ⟨4000 + x.val, by omega⟩ * ind (IntOp.addi (BitVec.ofNat 32 x.val) 4000#32 = w))
      = f (gene w) := by
  have h0 := chunk f 0 (by omega) w hw
  simp only [Nat.zero_add] at h0
  have h1 := chunk f 1000 (by omega) w hw
  have h2 := chunk f 2000 (by omega) w hw
  have h3 := chunk f 3000 (by omega) w hw
  have h4 := chunk f 4000 (by omega) w hw
  rw [h0, h1, h2, h3, h4]
  by_cases c1 : w.toNat < 1000
  · rw [if_pos (by omega), if_neg (by omega), if_neg (by omega), if_neg (by omega), if_neg (by omega)]; simp
  by_cases c2 : w.toNat < 2000
  · rw [if_neg (by omega), if_pos (by omega), if_neg (by omega), if_neg (by omega), if_neg (by omega)]; simp
  by_cases c3 : w.toNat < 3000
  · rw [if_neg (by omega), if_neg (by omega), if_pos (by omega), if_neg (by omega), if_neg (by omega)]; simp
  by_cases c4 : w.toNat < 4000
  · rw [if_neg (by omega), if_neg (by omega), if_neg (by omega), if_pos (by omega), if_neg (by omega)]; simp
  · rw [if_neg (by omega), if_neg (by omega), if_neg (by omega), if_neg (by omega), if_pos (by omega)]; simp

/-- A sum against an indicator is the term it picks. -/
theorem sum_ind {ι : Type} [Fintype ι] [DecidableEq ι] (f : ι → EReal) (a : ι) : ∑ i, f i * ind (i = a) = f a := by
  rw [Finset.sum_eq_single a (fun b _ hb => by simp [ind, hb]) (fun h => (h (Finset.mem_univ _)).elim)]
  simp [ind]

end Cert.Gat

end
-- ==== Proof.Model.lean ====
module

public import proofs.«01_k».proof.Proof.KLib

@[expose] public section

noncomputable section

/-! # The graphs, the parameters and the result named by the arguments -/

namespace Cert.Gat

open Idealize.ShloMosaic

/-- The graph of batch row `b` and graph number `g`: the edge words name nodes, the gene words pick the row's features. -/
def graphOf (X : Fin 256 → Fin 5000 → EReal) (ei : Fin 8 → Fin 2 → Fin 1600 → BitVec 32) (gi : Fin 8 → Fin 400 → BitVec 32)
    (b : Fin 256) (g : Fin 8) : Graph where
  src e := node (ei g 0 e)
  dst e := node (ei g 1 e)
  z n := X b (gene (gi g n))

/-- The result at batch row `b`: the last layers of the eight graphs' values. -/
def result (val : Graph → Params → EReal) (X : Fin 256 → Fin 5000 → EReal) (ei : Fin 8 → Fin 2 → Fin 1600 → BitVec 32)
    (gi : Fin 8 → Fin 400 → BitVec 32) (P : Params) (M : Mlp) (b : Fin 256) : EReal :=
  mlp M fun g => val (graphOf X ei gi b g) P

end Cert.Gat

end
-- ==== Proof.K0.lean ====
module

public import proofs.«01_k».proof.Proof.KLib
public import proofs.«01_k».proof.Proof.Gen.KernelIdeal.Frame
public import Idealize.ShloMosaic.Lib.Pipeline.Value

@[expose] public section

noncomputable section

/-! # What the kernel's first region computes: the matrix of edge counts -/

namespace Cert.KernelIdeal.Gen

open Idealize.ShloMosaic Cert.Gat

/-- The first region's block is the matrix of edge counts of its graph. -/
theorem out0_1_val (x0 : Vec Ideal S1x2x1600 .i32) (G : Graph) (hlt : ∀ r e, (x0 (ix3 (0 : Fin 1) r e)).toNat < 400)
    (hs : ∀ e, G.src e = node (x0 (ix3 (0 : Fin 1) (0 : Fin 2) e))) (hd : ∀ e, G.dst e = node (x0 (ix3 (0 : Fin 1) (1 : Fin 2) e)))
    (i j : Fin 400) : out0_1 (F := Ideal) x0 (ix3 (0 : Fin 1) i j) = kCt G i j := by
  unfold out0_1
  rw [View.canon_unit_zero (by decide)]
  unfold_payloads
  pointwise [dot_S1600x400_S1600x400_S400x400_0_0_1_1_n_n, hot_eq]
  unfold kCt
  rw [ind_congr (ofNat_inj_iff i j)]
  congr 1
  refine Finset.sum_congr rfl fun e _ => ?_
  rw [ind_congr (ofNat_eq_iff i _ (hlt 0 e)), ind_congr (ofNat_eq_iff j _ (hlt 1 e)), hs, hd]

end Cert.KernelIdeal.Gen

end
-- ==== Proof.KArr0.lean ====
module

public import proofs.«01_k».proof.Proof.Model
public import proofs.«01_k».proof.Proof.K0
public import Idealize.ShloMosaic.Lib.Pipeline.ValueKit

@[expose] public section

noncomputable section

/-! # The first region's array -/

namespace Cert.KernelIdeal.Gen

open Idealize.ShloMosaic Idealize.ShloMosaic.TcCoe Cert.Gat

/-- The block that window 0 of call 0 names at every grid point. -/
theorem idx0_0 : ∀ t : Fin cfg0.N, win0_0.index t = ![(grid0.coords t 0).val, 0, 0] := (by decide +kernel : ∀ t : Fin grid0.N, _)
/-- The block that window 1 of call 0 names at every grid point. -/
theorem idx0_1 : ∀ t : Fin cfg0.N, win0_1.index t = ![(grid0.coords t 0).val, 0, 0] := (by decide +kernel : ∀ t : Fin grid0.N, _)

variable (V : (c : Dev nD) → (b : Ref sig .tc) → Buf (Elt Ideal) ((c : Thread nD τ).loc b))

/-- The first region leaves the matrices of edge counts of the graphs `Gr` whose edges its argument holds. -/
theorem arr0 (c : Dev nD) (ei : Fin 8 → Fin 2 → Fin 1600 → BitVec 32) (hei : ∀ g r e, V c main_arg1 (ix3 g r e) = ei g r e)
    (hlt : ∀ g r e, (ei g r e).toNat < 400) (Gr : Fin 8 → Graph) (hs : ∀ g e, (Gr g).src e = node (ei g 0 e)) (hd : ∀ g e, (Gr g).dst e = node (ei g 1 e)) :
    (dat0 V c).arrAt 1 cfg0.N = fun i : S8x400x400.Idx => kCt (Gr (i 0)) (i 1) (i 2) := by
  refine (dat0 V c).arrAt_eq_of_covers 1 _ (by decide +kernel) fun t hf y => ?_
  blk_simp
  rw [after0_1]
  obtain ⟨g, hg⟩ : ∃ g : Fin 8, g.val = (grid0.coords t 0).val := ⟨⟨(grid0.coords t 0).val, (grid0.coords t 0).isLt⟩, rfl⟩
  have hr : ∀ r e, iblk0 V c 0 t (ix3 (0 : Fin 1) r e) = ei g r e := by
    intro r e
    refine Eq.trans ?_ (hei g r e)
    blk_ext! [iblk0, idx0_0 t]
  obtain ⟨i, j, rfl⟩ : ∃ i j : Fin 400, y = ix3 (0 : Fin 1) i j :=
    ⟨y 1, y 2, (eq_ix3 y).trans (by congr 1; exact Subsingleton.elim _ _)⟩
  have he : ((cfg0.win 1).blk t).view.emb (ix3 (0 : Fin 1) i j) = ix3 g i j := by
    blk_ext [idx0_1 t]
  rw [he]
  exact out0_1_val _ (Gr g) (fun r e => by rw [hr]; exact hlt g r e) (fun e => by rw [hr]; exact hs g e) (fun e => by rw [hr]; exact hd g e) i j

end Cert.KernelIdeal.Gen

end
-- ==== Proof.K1.lean ====
module

public import proofs.«01_k».proof.Proof.KLib
public import proofs.«01_k».proof.Proof.Gen.KernelIdeal.Frame
public import Idealize.ShloMosaic.Lib.Pipeline.Value

@[expose] public section

noncomputable section

/-! # What the kernel's second region computes: the first layer and the second layer's features and scores -/

namespace Cert.KernelIdeal.Gen

open Idealize.ShloMosaic Cert.Gat

section Layer1

variable (x0 : Vec Ideal S64x5000 .f32) (x1 : Vec Ideal S1x1x400 .i32) (x2 : Vec Ideal S1x2x1600 .i32) (x3 : Vec Ideal S1x32 .f32)
  (x4 : Vec Ideal S4x8 .f32) (x5 : Vec Ideal S4x8 .f32) (x6 : Vec Ideal S1x32 .f32) (x7 : Vec Ideal S32x32 .f32)
  (x8 : Vec Ideal S1x32 .f32) (x9 : Vec Ideal S1x32 .f32)

/-- The block's inputs are one row's graph and the network's parameters. -/
structure Holds1 (G : Graph) (P : Params) (b : Fin 64) : Prop where
  genes : ∀ n, (x1 (ix3 (0 : Fin 1) (0 : Fin 1) n)).toNat < 5000
  nodes : ∀ r e, (x2 (ix3 (0 : Fin 1) r e)).toNat < 400
  z : ∀ n, G.z n = x0 (ix2 b (gene (x1 (ix3 (0 : Fin 1) (0 : Fin 1) n))))
  src : ∀ e, G.src e = node (x2 (ix3 (0 : Fin 1) (0 : Fin 2) e))
  dst : ∀ e, G.dst e = node (x2 (ix3 (0 : Fin 1) (1 : Fin 2) e))
  w1 : ∀ c, P.w1 c = x3 (ix2 (0 : Fin 1) c)
  as1 : ∀ h j, P.as1 h j = x4 (ix2 h j)
  ad1 : ∀ h j, P.ad1 h j = x5 (ix2 h j)
  b1 : ∀ c, P.b1 c = x6 (ix2 (0 : Fin 1) c)
  w2 : ∀ c d, P.w2 c d = x7 (ix2 c d)
  as2 : ∀ d, P.as2 d = x8 (ix2 (0 : Fin 1) d)
  ad2 : ∀ d, P.ad2 d = x9 (ix2 (0 : Fin 1) d)

variable {x0 x1 x2 x3 x4 x5 x6 x7 x8 x9} {G : Graph} {P : Params} {b : Fin 64}

/-- The one-hot product over the genes reads every node's feature. -/
theorem xg_val (H : Holds1 x0 x1 x2 x3 x4 x5 x6 x7 x8 x9 G P b) (n : Fin 400) :
    k1_pay46 (F := Ideal) x0 x1 x2 x3 x4 x5 x6 x7 x8 x9 (ix2 b n) = G.z n := by
  unfold_payloads
  pointwise [dot_S64x1000_S1000x400_S64x400_1_0_0_1_n_n, hot_eq]
  rw [H.z]
  exact chunks (fun k => x0 (ix2 b k)) _ (H.genes n)

/-- The one-hot matrix of destinations. -/
theorem dg_val (H : Holds1 x0 x1 x2 x3 x4 x5 x6 x7 x8 x9 G P b) (n : Fin 400) (e : Fin 1600) :
    k1_pay47 (F := Ideal) x0 x1 x2 x3 x4 x5 x6 x7 x8 x9 (ix2 n e) = ind (n = G.dst e) := by
  unfold_payloads
  pointwise [hot_eq]
  rw [ind_congr (ofNat_eq_iff n _ (H.nodes 1 e)), H.dst]

/-- The edges' source features. -/
theorem xs_val (H : Holds1 x0 x1 x2 x3 x4 x5 x6 x7 x8 x9 G P b) (e : Fin 1600) :
    k1_pay48 (F := Ideal) x0 x1 x2 x3 x4 x5 x6 x7 x8 x9 (ix2 b e) = G.z (G.src e) := by
  have hx := xg_val H
  unfold k1_pay46 at hx
  unfold k1_pay48 k1_pay8 k1_pay6
  generalize k1_pay5 (F := Ideal) _ _ _ _ _ _ = xg at hx ⊢
  pointwise [dot_S64x400_S400x1600_S64x1600_1_0_0_1_n_n, hot_eq]
  simp only [hx, ind_congr (ofNat_eq_iff _ _ (H.nodes 0 e)), ← H.src]
  exact sum_ind _ _

/-- The edges' destination features. -/
theorem xd_val (H : Holds1 x0 x1 x2 x3 x4 x5 x6 x7 x8 x9 G P b) (e : Fin 1600) :
    k1_pay49 (F := Ideal) x0 x1 x2 x3 x4 x5 x6 x7 x8 x9 (ix2 b e) = G.z (G.dst e) := by
  have hx := xg_val H
  have hd := dg_val H
  unfold k1_pay46 at hx
  unfold k1_pay47 at hd
  unfold k1_pay49 k1_pay9
  generalize k1_pay5 (F := Ideal) _ _ _ _ _ _ = xg at hx ⊢
  generalize k1_pay7 (F := Ideal) _ = dg at hd ⊢
  pointwise [dot_S64x400_S400x1600_S64x1600_1_0_0_1_n_n]
  simp only [hx, hd]
  exact sum_ind _ _

/-- The head of a head's channel is that head. -/
theorem headOf_chan (h : Fin 4) (j : Fin 8) : headOf (chan h j) = h := by
  refine Fin.ext ?_
  show (8 * h.val + j.val) / 8 = h.val
  omega

/-- Channel `j` of the first head. -/
theorem chan0 (j : Fin 8) : chan 0 j = ⟨j.val, by omega⟩ := Fin.ext (by show 8 * 0 + j.val = j.val; omega)
/-- Channel `j` of the second head. -/
theorem chan1 (j : Fin 8) : chan 1 j = ⟨8 + j.val, by omega⟩ := Fin.ext (by show 8 * 1 + j.val = 8 + j.val; omega)
/-- Channel `j` of the third head. -/
theorem chan2 (j : Fin 8) : chan 2 j = ⟨16 + j.val, by omega⟩ := Fin.ext (by show 8 * 2 + j.val = 16 + j.val; omega)
/-- Channel `j` of the fourth head. -/
theorem chan3 (j : Fin 8) : chan 3 j = ⟨24 + j.val, by omega⟩ := Fin.ext (by show 8 * 3 + j.val = 24 + j.val; omega)

/-- Head 0 of the first layer. -/
theorem head0 (H : Holds1 x0 x1 x2 x3 x4 x5 x6 x7 x8 x9 G P b) (j : Fin 8) (n : Fin 400) :
    k1_pay52 (F := Ideal) x0 x1 x2 x3 x4 x5 x6 x7 x8 x9 (ix3 b j n) = kH1 G P (chan 0 j) n := by
  have hg := xg_val H
  have hd := dg_val H
  have hs := xs_val H
  have ht := xd_val H
  unfold kH1
  rw [headOf_chan]
  unfold kNum kDen kEx kExs kC att lrelu
  simp only [H.w1, H.as1, H.ad1, H.b1]
  simp only [← hd, ← hs, ← ht, ← hg]
  unfold k1_pay52
  generalize k1_pay46 x0 x1 x2 x3 x4 x5 x6 x7 x8 x9 = xg
  generalize k1_pay47 x0 x1 x2 x3 x4 x5 x6 x7 x8 x9 = dg
  generalize k1_pay48 x0 x1 x2 x3 x4 x5 x6 x7 x8 x9 = xs
  generalize k1_pay49 x0 x1 x2 x3 x4 x5 x6 x7 x8 x9 = xd
  unfold_payloads
  pointwise [dot_S64x1600_S400x1600_S64x400_1_1_0_0_n_n]
  simp only [chan0]
  rfl

/-- Head 1 of the first layer. -/
theorem head1 (H : Holds1 x0 x1 x2 x3 x4 x5 x6 x7 x8 x9 G P b) (j : Fin 8) (n : Fin 400) :
    k1_pay53 (F := Ideal) x0 x1 x2 x3 x4 x5 x6 x7 x8 x9 (ix3 b j n) = kH1 G P (chan 1 j) n := by
  have hg := xg_val H
  have hd := dg_val H
  have hs := xs_val H
  have ht := xd_val H
  unfold kH1
  rw [headOf_chan]
  unfold kNum kDen kEx kExs kC att lrelu
  simp only [H.w1, H.as1, H.ad1, H.b1]
  simp only [← hd, ← hs, ← ht, ← hg]
  unfold k1_pay53
  generalize k1_pay46 x0 x1 x2 x3 x4 x5 x6 x7 x8 x9 = xg
  generalize k1_pay47 x0 x1 x2 x3 x4 x5 x6 x7 x8 x9 = dg
  generalize k1_pay48 x0 x1 x2 x3 x4 x5 x6 x7 x8 x9 = xs
  generalize k1_pay49 x0 x1 x2 x3 x4 x5 x6 x7 x8 x9 = xd
  unfold_payloads
  pointwise [dot_S64x1600_S400x1600_S64x400_1_1_0_0_n_n]
  simp only [chan1]
  rfl

/-- Head 2 of the first layer. -/
theorem head2 (H : Holds1 x0 x1 x2 x3 x4 x5 x6 x7 x8 x9 G P b) (j : Fin 8) (n : Fin 400) :
    k1_pay54 (F := Ideal) x0 x1 x2 x3 x4 x5 x6 x7 x8 x9 (ix3 b j n) = kH1 G P (chan 2 j) n := by
  have hg := xg_val H
  have hd := dg_val H
  have hs := xs_val H
  have ht := xd_val H
  unfold kH1
  rw [headOf_chan]
  unfold kNum kDen kEx kExs kC att lrelu
  simp only [H.w1, H.as1, H.ad1, H.b1]
  simp only [← hd, ← hs, ← ht, ← hg]
  unfold k1_pay54
  generalize k1_pay46 x0 x1 x2 x3 x4 x5 x6 x7 x8 x9 = xg
  generalize k1_pay47 x0 x1 x2 x3 x4 x5 x6 x7 x8 x9 = dg
  generalize k1_pay48 x0 x1 x2 x3 x4 x5 x6 x7 x8 x9 = xs
  generalize k1_pay49 x0 x1 x2 x3 x4 x5 x6 x7 x8 x9 = xd
  unfold_payloads
  pointwise [dot_S64x1600_S400x1600_S64x400_1_1_0_0_n_n]
  simp only [chan2]
  rfl

/-- Four pieces of eight channels laid one after the other. -/
theorem cat4 (p0 p1 p2 p3 : FVec Ideal S64x8x400 .f32) (K : Fin 32 → EReal) (b : Fin 64) (n : Fin 400)
    (h0 : ∀ j, p0 (ix3 b j n) = K (chan 0 j)) (h1 : ∀ j, p1 (ix3 b j n) = K (chan 1 j))
    (h2 : ∀ j, p2 (ix3 b j n) = K (chan 2 j)) (h3 : ∀ j, p3 (ix3 b j n) = K (chan 3 j)) (c : Fin 32) :
    concatenate S64x32x400 1 [⟨S64x8x400, p0⟩, ⟨S64x8x400, p1⟩, ⟨S64x8x400, p2⟩, ⟨S64x8x400, p3⟩]
      concatenates_S64x8x400_S64x8x400_S64x8x400_S64x8x400_S64x32x400_d1 (ix3 b c n) = K c := by
  have hoff : ∀ j : Fin 8, ∀ a : Fin 3, a.cast (rfl : 3 = 3) ≠ (1 : Fin 3) → ((ix3 b j n : S64x8x400.Idx) a).val = ((ix3 b c n : S64x32x400.Idx) (a.cast rfl)).val := by
    intro j a ha
    fin_cases a
    · rfl
    · exact absurd rfl ha
    · rfl
  have hc := c.isLt
  by_cases c1 : c.val < 8
  · refine (concatenate_apply_piece (t := S64x32x400) 1 _ _ _ 0 (by show 0 < 4; omega) S64x8x400 p0 rfl rfl 0 rfl
      (ix3 b (⟨c.val, by omega⟩ : Fin 8) n) (hoff _) (by show 0 + c.val = c.val; omega)).trans ?_
    rw [h0]; congr 1; exact Fin.ext (by show 8 * 0 + c.val = c.val; omega)
  by_cases c2 : c.val < 16
  · refine (concatenate_apply_piece (t := S64x32x400) 1 _ _ _ 1 (by show 1 < 4; omega) S64x8x400 p1 rfl rfl 8 rfl
      (ix3 b (⟨c.val - 8, by omega⟩ : Fin 8) n) (hoff _) (by show 8 + (c.val - 8) = c.val; omega)).trans ?_
    rw [h1]; congr 1; exact Fin.ext (by show 8 * 1 + (c.val - 8) = c.val; omega)
  by_cases c3 : c.val < 24
  · refine (concatenate_apply_piece (t := S64x32x400) 1 _ _ _ 2 (by show 2 < 4; omega) S64x8x400 p2 rfl rfl 16 rfl
      (ix3 b (⟨c.val - 16, by omega⟩ : Fin 8) n) (hoff _) (by show 16 + (c.val - 16) = c.val; omega)).trans ?_
    rw [h2]; congr 1; exact Fin.ext (by show 8 * 2 + (c.val - 16) = c.val; omega)
  · refine (concatenate_apply_piece (t := S64x32x400) 1 _ _ _ 3 (by show 3 < 4; omega) S64x8x400 p3 rfl rfl 24 rfl
      (ix3 b (⟨c.val - 24, by omega⟩ : Fin 8) n) (hoff _) (by show 24 + (c.val - 24) = c.val; omega)).trans ?_
    rw [h3]; congr 1; exact Fin.ext (by show 8 * 3 + (c.val - 24) = c.val; omega)

/-- The product with the second layer's weights, channel by channel. -/
theorem mm38 (w : FVec Ideal S32x32 .f32) (h : FVec Ideal S64x32x400 .f32) (d : Fin 32) (b : Fin 64) (n : Fin 400) :
    matmul dot_S32x32_S64x32x400_S32x64x400_0_1_1_02_n_n none w h (constant S32x64x400 .f32 0x00000000#32) (ix3 d b n)
      = ∑ c : Fin 32, w (ix2 c d) * h (ix3 b c n) := by
  pointwise [dot_S32x32_S64x32x400_S32x64x400_0_1_1_02_n_n]

/-- The second layer's features, from the four heads. -/
theorem pay38_val (H : Holds1 x0 x1 x2 x3 x4 x5 x6 x7 x8 x9 G P b) (d : Fin 32) (n : Fin 400) :
    k1_pay38 (F := Ideal) (k1_pay46 x0 x1 x2 x3 x4 x5 x6 x7 x8 x9) (k1_pay47 x0 x1 x2 x3 x4 x5 x6 x7 x8 x9) (k1_pay48 x0 x1 x2 x3 x4 x5 x6 x7 x8 x9)
      (k1_pay51 x0 x1 x2 x3 x4 x5 x6 x7 x8 x9) (k1_pay52 x0 x1 x2 x3 x4 x5 x6 x7 x8 x9) (k1_pay53 x0 x1 x2 x3 x4 x5 x6 x7 x8 x9)
      (k1_pay54 x0 x1 x2 x3 x4 x5 x6 x7 x8 x9) (k1_pay55 x0 x1 x2 x3 x4 x5 x6 x7 x8 x9)
      (k1_pay34 (k1_pay50 x0 x1 x2 x3 x4 x5 x6 x7 x8 x9) (View.ld x4 r1_11)) (k1_pay35 (k1_pay50 x0 x1 x2 x3 x4 x5 x6 x7 x8 x9) (View.ld x5 r1_11))
      (k1_pay56 x0 x1 x2 x3 x4 x5 x6 x7 x8 x9) (k1_pay57 x0 x1 x2 x3 x4 x5 x6 x7 x8 x9) (View.ld x7 r1_12) (ix3 d b n)
      = kH2 G P d n := by
  unfold k1_pay38 kH2
  refine (mm38 _ _ d b n).trans (Finset.sum_congr rfl fun c _ => ?_)
  rw [H.w2]
  have e : View.ld x7 r1_12 (ix2 c d) = x7 (ix2 c d) := by pointwise
  refine congr (congrArg HMul.hMul e) ?_
  refine cat4 _ _ _ _ (fun c => kH1 G P c n) b n (fun j => head0 H j n) (fun j => head1 H j n) (fun j => head2 H j n) (fun j => ?_) c
  have hg := xg_val H
  have hd := dg_val H
  have hs := xs_val H
  have ht := xd_val H
  unfold kH1
  rw [headOf_chan]
  unfold kNum kDen kEx kExs kC att lrelu
  simp only [H.w1, H.as1, H.ad1, H.b1]
  simp only [← hd, ← hs, ← ht, ← hg]
  unfold k1_pay57 k1_pay56 k1_pay55
  generalize k1_pay46 x0 x1 x2 x3 x4 x5 x6 x7 x8 x9 = xg
  generalize k1_pay47 x0 x1 x2 x3 x4 x5 x6 x7 x8 x9 = dg
  generalize k1_pay48 x0 x1 x2 x3 x4 x5 x6 x7 x8 x9 = xs
  generalize k1_pay49 x0 x1 x2 x3 x4 x5 x6 x7 x8 x9 = xd
  unfold_payloads
  pointwise [dot_S64x1600_S400x1600_S64x400_1_1_0_0_n_n]
  simp only [chan3]
  rfl

/-- The region's first result: the second layer's features. -/
theorem out1_10_val (H : Holds1 x0 x1 x2 x3 x4 x5 x6 x7 x8 x9 G P b) (d : Fin 32) (n : Fin 400) :
    out1_10 (F := Ideal) x0 x1 x2 x3 x4 x5 x6 x7 x8 x9 (ix4 (0 : Fin 1) d b n) = kH2 G P d n := by
  unfold out1_10
  rw [View.canon_unit_zero (by decide)]
  refine Eq.trans ?_ (pay38_val H d n)
  unfold k1_pay41
  generalize k1_pay38 (F := Ideal) _ _ _ _ _ _ _ _ _ _ _ _ _ = v
  pointwise

/-- The region's second result: the second layer's scores of the sources. -/
theorem out1_11_val (H : Holds1 x0 x1 x2 x3 x4 x5 x6 x7 x8 x9 G P b) (n : Fin 400) :
    out1_11 (F := Ideal) x0 x1 x2 x3 x4 x5 x6 x7 x8 x9 (ix3 (0 : Fin 1) b n) = kA2 G P P.as2 n := by
  unfold out1_11
  rw [View.canon_unit_zero (by decide)]
  unfold kA2
  simp only [← pay38_val H, H.as2]
  unfold k1_pay39
  generalize k1_pay38 (F := Ideal) _ _ _ _ _ _ _ _ _ _ _ _ _ = v
  pointwise [dot_S1x32_S32x64x400_S1x64x400_1_0_0_12_n_n]

/-- The region's third result: the second layer's scores of the destinations. -/
theorem out1_12_val (H : Holds1 x0 x1 x2 x3 x4 x5 x6 x7 x8 x9 G P b) (n : Fin 400) :
    out1_12 (F := Ideal) x0 x1 x2 x3 x4 x5 x6 x7 x8 x9 (ix3 (0 : Fin 1) b n) = kA2 G P P.ad2 n := by
  unfold out1_12
  rw [View.canon_unit_zero (by decide)]
  unfold kA2
  simp only [← pay38_val H, H.ad2]
  unfold k1_pay40
  generalize k1_pay38 (F := Ideal) _ _ _ _ _ _ _ _ _ _ _ _ _ = v
  pointwise [dot_S1x32_S32x64x400_S1x64x400_1_0_0_12_n_n]

end Layer1

end Cert.KernelIdeal.Gen

end
-- ==== Proof.KArr1.lean ====
module

public import proofs.«01_k».proof.Proof.Model
public import proofs.«01_k».proof.Proof.K1
public import Idealize.ShloMosaic.Lib.Pipeline.ValueKit

@[expose] public section

noncomputable section

/-! # The second region's arrays -/

namespace Cert.KernelIdeal.Gen

open Idealize.ShloMosaic Idealize.ShloMosaic.TcCoe Cert.Gat

/-- The block that window 0 of call 1 names at every grid point. -/
theorem idx1_0 : ∀ t : Fin cfg1.N, win1_0.index t = ![(grid1.coords t 1).val, 0] := (by decide +kernel : ∀ t : Fin grid1.N, _)
/-- The block that window 1 of call 1 names at every grid point. -/
theorem idx1_1 : ∀ t : Fin cfg1.N, win1_1.index t = ![(grid1.coords t 0).val, 0, 0] := (by decide +kernel : ∀ t : Fin grid1.N, _)
/-- The block that window 2 of call 1 names at every grid point. -/
theorem idx1_2 : ∀ t : Fin cfg1.N, win1_2.index t = ![(grid1.coords t 0).val, 0, 0] := (by decide +kernel : ∀ t : Fin grid1.N, _)
/-- The block that window 3 of call 1 names at every grid point. -/
theorem idx1_3 : ∀ t : Fin cfg1.N, win1_3.index t = ![0, 0] := (by decide +kernel : ∀ t : Fin grid1.N, _)
/-- The block that window 4 of call 1 names at every grid point. -/
theorem idx1_4 : ∀ t : Fin cfg1.N, win1_4.index t = ![0, 0] := (by decide +kernel : ∀ t : Fin grid1.N, _)
/-- The block that window 5 of call 1 names at every grid point. -/
theorem idx1_5 : ∀ t : Fin cfg1.N, win1_5.index t = ![0, 0] := (by decide +kernel : ∀ t : Fin grid1.N, _)
/-- The block that window 6 of call 1 names at every grid point. -/
theorem idx1_6 : ∀ t : Fin cfg1.N, win1_6.index t = ![0, 0] := (by decide +kernel : ∀ t : Fin grid1.N, _)
/-- The block that window 7 of call 1 names at every grid point. -/
theorem idx1_7 : ∀ t : Fin cfg1.N, win1_7.index t = ![0, 0] := (by decide +kernel : ∀ t : Fin grid1.N, _)
/-- The block that window 8 of call 1 names at every grid point. -/
theorem idx1_8 : ∀ t : Fin cfg1.N, win1_8.index t = ![0, 0] := (by decide +kernel : ∀ t : Fin grid1.N, _)
/-- The block that window 9 of call 1 names at every grid point. -/
theorem idx1_9 : ∀ t : Fin cfg1.N, win1_9.index t = ![0, 0] := (by decide +kernel : ∀ t : Fin grid1.N, _)
/-- The block that window 10 of call 1 names at every grid point. -/
theorem idx1_10 : ∀ t : Fin cfg1.N, win1_10.index t = ![(grid1.coords t 0).val, 0, (grid1.coords t 1).val, 0] := (by decide +kernel : ∀ t : Fin grid1.N, _)
/-- The block that window 11 of call 1 names at every grid point. -/
theorem idx1_11 : ∀ t : Fin cfg1.N, win1_11.index t = ![(grid1.coords t 0).val, (grid1.coords t 1).val, 0] := (by decide +kernel : ∀ t : Fin grid1.N, _)
/-- The block that window 12 of call 1 names at every grid point. -/
theorem idx1_12 : ∀ t : Fin cfg1.N, win1_12.index t = ![(grid1.coords t 0).val, (grid1.coords t 1).val, 0] := (by decide +kernel : ∀ t : Fin grid1.N, _)

variable (V : (c : Dev nD) → (b : Ref sig .tc) → Buf (Elt Ideal) ((c : Thread nD τ).loc b))

/-- What the second region's argument arrays hold. -/
structure In1 (c : Dev nD) (X : Fin 256 → Fin 5000 → EReal) (ei : Fin 8 → Fin 2 → Fin 1600 → BitVec 32) (gi : Fin 8 → Fin 400 → BitVec 32)
    (P : Params) : Prop where
  genes : ∀ g n, (gi g n).toNat < 5000
  nodes : ∀ g r e, (ei g r e).toNat < 400
  x : ∀ b k, V c main_arg0 (ix2 b k) = X b k
  gi : ∀ g n, V c main_v0 (ix3 g (0 : Fin 1) n) = gi g n
  ei : ∀ g r e, V c main_arg1 (ix3 g r e) = ei g r e
  w1 : ∀ d, V c main_arg3 (ix2 (0 : Fin 1) d) = P.w1 d
  as1 : ∀ h j, V c main_arg4 (ix2 h j) = P.as1 h j
  ad1 : ∀ h j, V c main_arg5 (ix2 h j) = P.ad1 h j
  b1 : ∀ d, V c main_v2 (ix2 (0 : Fin 1) d) = P.b1 d
  w2 : ∀ k d, V c main_arg7 (ix2 k d) = P.w2 k d
  as2 : ∀ d, V c main_arg8 (ix2 (0 : Fin 1) d) = P.as2 d
  ad2 : ∀ d, V c main_arg9 (ix2 (0 : Fin 1) d) = P.ad2 d

variable {V} {X : Fin 256 → Fin 5000 → EReal} {ei : Fin 8 → Fin 2 → Fin 1600 → BitVec 32} {gi : Fin 8 → Fin 400 → BitVec 32} {P : Params} {c : Dev nD}

/-- The blocks at a point hold one graph and its rows. -/
theorem holds1 (H : In1 V c X ei gi P) (t : Fin cfg1.N) (g : Fin 8) (hg : g.val = (grid1.coords t 0).val) (b : Fin 64) (r : Fin 256)
    (hr : r.val = (grid1.coords t 1).val * 64 + b.val) :
    Holds1 (iblk1 V c 0 t) (iblk1 V c 1 t) (iblk1 V c 2 t) (iblk1 V c 3 t) (iblk1 V c 4 t) (iblk1 V c 5 t) (iblk1 V c 6 t) (iblk1 V c 7 t)
      (iblk1 V c 8 t) (iblk1 V c 9 t) (graphOf X ei gi r g) P b := by
  have h1 : ∀ n, iblk1 V c 1 t (ix3 (0 : Fin 1) (0 : Fin 1) n) = gi g n := fun n => Eq.trans (by blk_ext! [iblk1, idx1_1 t]) (H.gi g n)
  have h2 : ∀ k e, iblk1 V c 2 t (ix3 (0 : Fin 1) k e) = ei g k e := fun k e => Eq.trans (by blk_ext! [iblk1, idx1_2 t]) (H.ei g k e)
  have h0 : ∀ k, iblk1 V c 0 t (ix2 b k) = X r k := fun k => Eq.trans (by blk_ext! [iblk1, idx1_0 t]) (H.x r k)
  refine ⟨fun n => ?_, fun k e => ?_, fun n => ?_, fun e => ?_, fun e => ?_, fun d => ?_, fun h j => ?_, fun h j => ?_, fun d => ?_, fun k d => ?_,
    fun d => ?_, fun d => ?_⟩
  · rw [h1]; exact H.genes g n
  · rw [h2]; exact H.nodes g k e
  · rw [h1, h0]; rfl
  · rw [h2]; rfl
  · rw [h2]; rfl
  · exact Eq.trans (H.w1 d).symm (by blk_ext! [iblk1, idx1_3 t])
  · exact Eq.trans (H.as1 h j).symm (by blk_ext! [iblk1, idx1_4 t])
  · exact Eq.trans (H.ad1 h j).symm (by blk_ext! [iblk1, idx1_5 t])
  · exact Eq.trans (H.b1 d).symm (by blk_ext! [iblk1, idx1_6 t])
  · exact Eq.trans (H.w2 k d).symm (by blk_ext! [iblk1, idx1_7 t])
  · exact Eq.trans (H.as2 d).symm (by blk_ext! [iblk1, idx1_8 t])
  · exact Eq.trans (H.ad2 d).symm (by blk_ext! [iblk1, idx1_9 t])

/-- A point's graph number and the array row of a block row. -/
theorem pt1 (t : Fin cfg1.N) (b : Fin 64) : ∃ (g : Fin 8) (r : Fin 256), g.val = (grid1.coords t 0).val ∧ r.val = (grid1.coords t 1).val * 64 + b.val :=
  ⟨⟨(grid1.coords t 0).val, (grid1.coords t 0).isLt⟩, ⟨(grid1.coords t 1).val * 64 + b.val, by
    have h : (grid1.coords t 1).val < 4 := (grid1.coords t 1).isLt
    have := b.isLt
    omega⟩, rfl, rfl⟩

/-- The second layer's features. -/
theorem arr1_10 (H : In1 V c X ei gi P) :
    (dat1 V c).arrAt 10 cfg1.N = fun i : S8x32x256x400.Idx => kH2 (graphOf X ei gi (i 2) (i 0)) P (i 1) (i 3) := by
  refine (dat1 V c).arrAt_eq_of_covers 10 _ (by decide +kernel) fun t hf y => ?_
  blk_simp
  rw [after1_10]
  obtain ⟨d, b, n, rfl⟩ : ∃ (d : Fin 32) (b : Fin 64) (n : Fin 400), y = ix4 (0 : Fin 1) d b n :=
    ⟨y 1, y 2, y 3, (eq_ix4 y).trans (by congr 1; exact Subsingleton.elim _ _)⟩
  obtain ⟨g, r, hg, hr⟩ := pt1 t b
  have he : ((cfg1.win 10).blk t).view.emb (ix4 (0 : Fin 1) d b n) = ix4 g d r n := by
    blk_ext [idx1_10 t]
  rw [he]
  exact out1_10_val (holds1 H t g hg b r hr) d n

/-- The second layer's scores of the sources. -/
theorem arr1_11 (H : In1 V c X ei gi P) :
    (dat1 V c).arrAt 11 cfg1.N = fun i : S8x256x400.Idx => kA2 (graphOf X ei gi (i 1) (i 0)) P P.as2 (i 2) := by
  refine (dat1 V c).arrAt_eq_of_covers 11 _ (by decide +kernel) fun t hf y => ?_
  blk_simp
  rw [after1_11]
  obtain ⟨b, n, rfl⟩ : ∃ (b : Fin 64) (n : Fin 400), y = ix3 (0 : Fin 1) b n :=
    ⟨y 1, y 2, (eq_ix3 y).trans (by congr 1; exact Subsingleton.elim _ _)⟩
  obtain ⟨g, r, hg, hr⟩ := pt1 t b
  have he : ((cfg1.win 11).blk t).view.emb (ix3 (0 : Fin 1) b n) = ix3 g r n := by
    blk_ext [idx1_11 t]
  rw [he]
  exact out1_11_val (holds1 H t g hg b r hr) n

/-- The second layer's scores of the destinations. -/
theorem arr1_12 (H : In1 V c X ei gi P) :
    (dat1 V c).arrAt 12 cfg1.N = fun i : S8x256x400.Idx => kA2 (graphOf X ei gi (i 1) (i 0)) P P.ad2 (i 2) := by
  refine (dat1 V c).arrAt_eq_of_covers 12 _ (by decide +kernel) fun t hf y => ?_
  blk_simp
  rw [after1_12]
  obtain ⟨b, n, rfl⟩ : ∃ (b : Fin 64) (n : Fin 400), y = ix3 (0 : Fin 1) b n :=
    ⟨y 1, y 2, (eq_ix3 y).trans (by congr 1; exact Subsingleton.elim _ _)⟩
  obtain ⟨g, r, hg, hr⟩ := pt1 t b
  have he : ((cfg1.win 12).blk t).view.emb (ix3 (0 : Fin 1) b n) = ix3 g r n := by
    blk_ext [idx1_12 t]
  rw [he]
  exact out1_12_val (holds1 H t g hg b r hr) n

end Cert.KernelIdeal.Gen

end
-- ==== Proof.K2.lean ====
module

public import proofs.«01_k».proof.Proof.KLib
public import proofs.«01_k».proof.Proof.Gen.KernelIdeal.Frame
public import Idealize.ShloMosaic.Lib.Pipeline.Value

@[expose] public section

noncomputable section

/-! # What the kernel's third region computes: the second layer, its mean over the nodes and the readout -/

namespace Cert.KernelIdeal.Gen

open Idealize.ShloMosaic Cert.Gat

/-- The first 32 rows of the features over the row of ones are the features. -/
theorem catL (h : FVec Ideal S32x400 .f32) (o : FVec Ideal S1x400 .f32) (d : Fin 32) (p : d.val < 33) (i : Fin 400) :
    concatenate S33x400 0 [⟨S32x400, h⟩, ⟨S1x400, o⟩] concatenates_S32x400_S1x400_S33x400_d0 (ix2 (⟨d.val, p⟩ : Fin 33) i) = h (ix2 d i) :=
  concatenate_apply_piece (t := S33x400) 0 _ _ _ 0 (by show 0 < 2; omega) S32x400 h rfl rfl 0 rfl
    (ix2 d i) (by intro a ha; fin_cases a; exact absurd rfl ha; rfl) (by show 0 + d.val = d.val; omega)

/-- The last row of the features over the row of ones is the row of ones. -/
theorem catR (h : FVec Ideal S32x400 .f32) (o : FVec Ideal S1x400 .f32) (p : 32 < 33) (i : Fin 400) :
    concatenate S33x400 0 [⟨S32x400, h⟩, ⟨S1x400, o⟩] concatenates_S32x400_S1x400_S33x400_d0 (ix2 (⟨32, p⟩ : Fin 33) i) = o (ix2 (0 : Fin 1) i) :=
  concatenate_apply_piece (t := S33x400) 0 _ _ _ 1 (by show 1 < 2; omega) S1x400 o rfl rfl 32 rfl
    (ix2 (0 : Fin 1) i) (by intro a ha; fin_cases a; exact absurd rfl ha; rfl) (by show 32 + 0 = 32; omega)

/-- Eight one-entry pieces laid one after the other. -/
theorem cat8 (p0 p1 p2 p3 p4 p5 p6 p7 : FVec Ideal S1 .f32) (v : Fin 8 → EReal)
    (h0 : p0 (ix1 (0 : Fin 1)) = v 0)
    (h1 : p1 (ix1 (0 : Fin 1)) = v 1)
    (h2 : p2 (ix1 (0 : Fin 1)) = v 2)
    (h3 : p3 (ix1 (0 : Fin 1)) = v 3)
    (h4 : p4 (ix1 (0 : Fin 1)) = v 4)
    (h5 : p5 (ix1 (0 : Fin 1)) = v 5)
    (h6 : p6 (ix1 (0 : Fin 1)) = v 6)
    (h7 : p7 (ix1 (0 : Fin 1)) = v 7)
    (b : Fin 8) :
    concatenate S8 0 [⟨S1, p0⟩, ⟨S1, p1⟩, ⟨S1, p2⟩, ⟨S1, p3⟩, ⟨S1, p4⟩, ⟨S1, p5⟩, ⟨S1, p6⟩, ⟨S1, p7⟩] concatenates_S1_S1_S1_S1_S1_S1_S1_S1_S8_d0 (ix1 b) = v b := by
  have hoff : ∀ a : Fin 1, a.cast (rfl : 1 = 1) ≠ (0 : Fin 1) → ((ix1 (0 : Fin 1) : S1.Idx) a).val = ((ix1 b : S8.Idx) (a.cast rfl)).val :=
    fun a ha => absurd (Subsingleton.elim _ _) ha
  fin_cases b
  · exact (concatenate_apply_piece (t := S8) 0 _ _ _ 0 (by show 0 < 8; omega) S1 p0 rfl rfl 0 rfl (ix1 (0 : Fin 1)) hoff rfl).trans h0
  · exact (concatenate_apply_piece (t := S8) 0 _ _ _ 1 (by show 1 < 8; omega) S1 p1 rfl rfl 1 rfl (ix1 (0 : Fin 1)) hoff rfl).trans h1
  · exact (concatenate_apply_piece (t := S8) 0 _ _ _ 2 (by show 2 < 8; omega) S1 p2 rfl rfl 2 rfl (ix1 (0 : Fin 1)) hoff rfl).trans h2
  · exact (concatenate_apply_piece (t := S8) 0 _ _ _ 3 (by show 3 < 8; omega) S1 p3 rfl rfl 3 rfl (ix1 (0 : Fin 1)) hoff rfl).trans h3
  · exact (concatenate_apply_piece (t := S8) 0 _ _ _ 4 (by show 4 < 8; omega) S1 p4 rfl rfl 4 rfl (ix1 (0 : Fin 1)) hoff rfl).trans h4
  · exact (concatenate_apply_piece (t := S8) 0 _ _ _ 5 (by show 5 < 8; omega) S1 p5 rfl rfl 5 rfl (ix1 (0 : Fin 1)) hoff rfl).trans h5
  · exact (concatenate_apply_piece (t := S8) 0 _ _ _ 6 (by show 6 < 8; omega) S1 p6 rfl rfl 6 rfl (ix1 (0 : Fin 1)) hoff rfl).trans h6
  · exact (concatenate_apply_piece (t := S8) 0 _ _ _ 7 (by show 7 < 8; omega) S1 p7 rfl rfl 7 rfl (ix1 (0 : Fin 1)) hoff rfl).trans h7

/-- Eight entries read as a block of one row. -/
theorem cast8 (v : FVec Ideal S8 .f32) (b : Fin 8) : shapeCast S1x1x8 v shapeCasts_S8_S1x1x8 (ix3 (0 : Fin 1) (0 : Fin 1) b) = v (ix1 b) := by
  pointwise

section Pool

variable (x0 : Vec Ideal S1x400x400 .f32) (x1 : Vec Ideal S1x32x8x400 .f32) (x2 : Vec Ideal S1x8x400 .f32) (x3 : Vec Ideal S1x8x400 .f32)
  (x4 : Vec Ideal S1x32 .f32) (x5 : Vec Ideal S32x1 .f32) (x6 : Vec Ideal S1x1 .f32)

/-- The readout of one row of the block. -/
def read2 (b : Fin 8) : EReal :=
  (∑ d : Fin 32, Ideal.div (∑ j : Fin 400, poolRes (fun d => x4 (ix2 (0 : Fin 1) d)) (fun i j => x0 (ix3 (0 : Fin 1) i j))
      (fun d n => x1 (ix4 (0 : Fin 1) d b n)) (fun n => x2 (ix3 (0 : Fin 1) b n)) (fun n => x3 (ix3 (0 : Fin 1) b n)) d j) nodes * x5 (ix2 d (0 : Fin 1)))
    + x6 (ix2 (0 : Fin 1) (0 : Fin 1))

/-- Row 0 of the block. -/
theorem row0 : k2_pay11 (F := Ideal) (k2_pay30 x0 x1 x2 x3 x4 x5 x6) (View.ld x5 r2_4) (k2_pay9 (View.ld x0 r2_0) (View.ld x1 r2_1) (View.ld x2 r2_2) (View.ld x3 r2_2)) (k2_pay10 (View.ld x0 r2_0) (View.ld x1 r2_1) (View.ld x2 r2_2) (View.ld x3 r2_2)) (View.ld x6 r2_5) = read2 x0 x1 x2 x3 x4 x5 x6 0 := by
  unfold_payloads
  pointwise [dot_S33x400_S400x400_S33x400_1_0_0_1_n_n, catL, catR]
  unfold read2 poolRes
  simp only [one_mul]
  rfl

/-- Row 1 of the block. -/
theorem row1 : k2_pay14 (F := Ideal) (View.ld x5 r2_4) (k2_pay12 (k2_pay26 x0 x1 x2 x3 x4 x5 x6) (k2_pay27 x0 x1 x2 x3 x4 x5 x6) (k2_pay28 x0 x1 x2 x3 x4 x5 x6) (k2_pay29 x0 x1 x2 x3 x4 x5 x6) (k2_pay30 x0 x1 x2 x3 x4 x5 x6) (k2_pay31 x0 x1 x2 x3 x4 x5 x6)) (k2_pay13 (F := Ideal)) (View.ld x6 r2_5) = read2 x0 x1 x2 x3 x4 x5 x6 1 := by
  unfold_payloads
  pointwise [dot_S33x400_S400x400_S33x400_1_0_0_1_n_n, catL, catR]
  unfold read2 poolRes
  simp only [one_mul]
  rfl

/-- Row 2 of the block. -/
theorem row2 : k2_pay17 (F := Ideal) (k2_pay15 (k2_pay26 x0 x1 x2 x3 x4 x5 x6) (k2_pay27 x0 x1 x2 x3 x4 x5 x6) (k2_pay28 x0 x1 x2 x3 x4 x5 x6) (k2_pay29 x0 x1 x2 x3 x4 x5 x6) (k2_pay30 x0 x1 x2 x3 x4 x5 x6) (k2_pay31 x0 x1 x2 x3 x4 x5 x6)) (k2_pay16 (View.ld x5 r2_4)) (View.ld x6 r2_5) = read2 x0 x1 x2 x3 x4 x5 x6 2 := by
  unfold_payloads
  pointwise [dot_S33x400_S400x400_S33x400_1_0_0_1_n_n, catL, catR]
  unfold read2 poolRes
  simp only [one_mul]
  rfl

/-- Row 3 of the block. -/
theorem row3 : k2_pay19 (F := Ideal) (k2_pay18 (k2_pay26 x0 x1 x2 x3 x4 x5 x6) (k2_pay27 x0 x1 x2 x3 x4 x5 x6) (k2_pay28 x0 x1 x2 x3 x4 x5 x6) (k2_pay29 x0 x1 x2 x3 x4 x5 x6) (k2_pay30 x0 x1 x2 x3 x4 x5 x6) (View.ld x5 r2_4) (k2_pay31 x0 x1 x2 x3 x4 x5 x6)) (View.ld x6 r2_5) = read2 x0 x1 x2 x3 x4 x5 x6 3 := by
  unfold_payloads
  pointwise [dot_S33x400_S400x400_S33x400_1_0_0_1_n_n, catL, catR]
  unfold read2 poolRes
  simp only [one_mul]
  rfl

/-- Row 4 of the block. -/
theorem row4 : k2_pay20 (F := Ideal) (k2_pay26 x0 x1 x2 x3 x4 x5 x6) (k2_pay27 x0 x1 x2 x3 x4 x5 x6) (k2_pay28 x0 x1 x2 x3 x4 x5 x6) (k2_pay29 x0 x1 x2 x3 x4 x5 x6) (k2_pay30 x0 x1 x2 x3 x4 x5 x6) (View.ld x5 r2_4) (k2_pay31 x0 x1 x2 x3 x4 x5 x6) (View.ld x6 r2_5) = read2 x0 x1 x2 x3 x4 x5 x6 4 := by
  unfold_payloads
  pointwise [dot_S33x400_S400x400_S33x400_1_0_0_1_n_n, catL, catR]
  unfold read2 poolRes
  simp only [one_mul]
  rfl

/-- Row 5 of the block. -/
theorem row5 : k2_pay22 (F := Ideal) (k2_pay26 x0 x1 x2 x3 x4 x5 x6) (k2_pay27 x0 x1 x2 x3 x4 x5 x6) (k2_pay29 x0 x1 x2 x3 x4 x5 x6) (k2_pay30 x0 x1 x2 x3 x4 x5 x6) (View.ld x5 r2_4) (k2_pay31 x0 x1 x2 x3 x4 x5 x6) (k2_pay21 (k2_pay28 x0 x1 x2 x3 x4 x5 x6)) (View.ld x6 r2_5) = read2 x0 x1 x2 x3 x4 x5 x6 5 := by
  unfold_payloads
  pointwise [dot_S33x400_S400x400_S33x400_1_0_0_1_n_n, catL, catR]
  unfold read2 poolRes
  simp only [one_mul]
  rfl

/-- Row 6 of the block. -/
theorem row6 : k2_pay24 (F := Ideal) (k2_pay26 x0 x1 x2 x3 x4 x5 x6) (k2_pay27 x0 x1 x2 x3 x4 x5 x6) (k2_pay30 x0 x1 x2 x3 x4 x5 x6) (View.ld x5 r2_4) (k2_pay31 x0 x1 x2 x3 x4 x5 x6) (k2_pay23 (k2_pay28 x0 x1 x2 x3 x4 x5 x6) (k2_pay29 x0 x1 x2 x3 x4 x5 x6)) (Scalar.ofBits .f32 0x00000000#32) (View.ld x6 r2_5) = read2 x0 x1 x2 x3 x4 x5 x6 6 := by
  unfold_payloads
  pointwise [dot_S33x400_S400x400_S33x400_1_0_0_1_n_n, catL, catR]
  unfold read2 poolRes
  simp only [one_mul]
  rfl

/-- The region's result: every row's readout. -/
theorem out2_7_val (b : Fin 8) : out2_7 (F := Ideal) x0 x1 x2 x3 x4 x5 x6 (ix3 (0 : Fin 1) (0 : Fin 1) b) = read2 x0 x1 x2 x3 x4 x5 x6 b := by
  unfold out2_7
  rw [View.canon_unit_zero (by decide)]
  rw [row0, row1, row2, row3, row4, row5, row6]
  generalize h0 : read2 x0 x1 x2 x3 x4 x5 x6 0 = v0
  generalize h1 : read2 x0 x1 x2 x3 x4 x5 x6 1 = v1
  generalize h2 : read2 x0 x1 x2 x3 x4 x5 x6 2 = v2
  generalize h3 : read2 x0 x1 x2 x3 x4 x5 x6 3 = v3
  generalize h4 : read2 x0 x1 x2 x3 x4 x5 x6 4 = v4
  generalize h5 : read2 x0 x1 x2 x3 x4 x5 x6 5 = v5
  generalize h6 : read2 x0 x1 x2 x3 x4 x5 x6 6 = v6
  unfold k2_pay1
  refine (cast8 _ b).trans (cat8 _ _ _ _ _ _ _ _ (read2 x0 x1 x2 x3 x4 x5 x6) ?_ ?_ ?_ ?_ ?_ ?_ ?_ ?_ b)
  · exact h0.symm
  · exact h1.symm
  · exact h2.symm
  · exact h3.symm
  · exact h4.symm
  · exact h5.symm
  · exact h6.symm
  · clear h0 h1 h2 h3 h4 h5 h6
    unfold_payloads
    pointwise [dot_S33x400_S400x400_S33x400_1_0_0_1_n_n, catL, catR]
    unfold read2 poolRes
    simp only [one_mul]
    rfl

end Pool

end Cert.KernelIdeal.Gen

end
-- ==== Proof.KArr2.lean ====
module

public import proofs.«01_k».proof.Proof.Model
public import proofs.«01_k».proof.Proof.K2
public import Idealize.ShloMosaic.Lib.Pipeline.ValueKit

@[expose] public section

noncomputable section

/-! # The third region's array -/

namespace Cert.KernelIdeal.Gen

open Idealize.ShloMosaic Idealize.ShloMosaic.TcCoe Cert.Gat

/-- The block that window 0 of call 2 names at every grid point. -/
theorem idx2_0 : ∀ t : Fin cfg2.N, win2_0.index t = ![(grid2.coords t 0).val, 0, 0] := (by decide +kernel : ∀ t : Fin grid2.N, _)
/-- The block that window 1 of call 2 names at every grid point. -/
theorem idx2_1 : ∀ t : Fin cfg2.N, win2_1.index t = ![(grid2.coords t 0).val, 0, (grid2.coords t 1).val, 0] := (by decide +kernel : ∀ t : Fin grid2.N, _)
/-- The block that window 2 of call 2 names at every grid point. -/
theorem idx2_2 : ∀ t : Fin cfg2.N, win2_2.index t = ![(grid2.coords t 0).val, (grid2.coords t 1).val, 0] := (by decide +kernel : ∀ t : Fin grid2.N, _)
/-- The block that window 3 of call 2 names at every grid point. -/
theorem idx2_3 : ∀ t : Fin cfg2.N, win2_3.index t = ![(grid2.coords t 0).val, (grid2.coords t 1).val, 0] := (by decide +kernel : ∀ t : Fin grid2.N, _)
/-- The block that window 4 of call 2 names at every grid point. -/
theorem idx2_4 : ∀ t : Fin cfg2.N, win2_4.index t = ![0, 0] := (by decide +kernel : ∀ t : Fin grid2.N, _)
/-- The block that window 5 of call 2 names at every grid point. -/
theorem idx2_5 : ∀ t : Fin cfg2.N, win2_5.index t = ![0, 0] := (by decide +kernel : ∀ t : Fin grid2.N, _)
/-- The block that window 6 of call 2 names at every grid point. -/
theorem idx2_6 : ∀ t : Fin cfg2.N, win2_6.index t = ![0, 0] := (by decide +kernel : ∀ t : Fin grid2.N, _)
/-- The block that window 7 of call 2 names at every grid point. -/
theorem idx2_7 : ∀ t : Fin cfg2.N, win2_7.index t = ![(grid2.coords t 0).val * 32 + (grid2.coords t 1).val, 0, 0] := (by decide +kernel : ∀ t : Fin grid2.N, _)

variable (V : (c : Dev nD) → (b : Ref sig .tc) → Buf (Elt Ideal) ((c : Thread nD τ).loc b))

/-- What the third region's argument arrays hold. -/
structure In2 (c : Dev nD) (Gr : Fin 256 → Fin 8 → Graph) (P : Params) : Prop where
  ct : ∀ g b i j, V c main_v1 (ix3 g i j) = kCt (Gr b g) i j
  h : ∀ g d b n, V c main_v3_0 (ix4 g d b n) = kH2 (Gr b g) P d n
  sa : ∀ g b n, V c main_v3_1 (ix3 g b n) = kA2 (Gr b g) P P.as2 n
  da : ∀ g b n, V c main_v3_2 (ix3 g b n) = kA2 (Gr b g) P P.ad2 n
  b2 : ∀ d, V c main_v4 (ix2 (0 : Fin 1) d) = P.b2 d
  fcw : ∀ d, V c main_arg11 (ix2 d (0 : Fin 1)) = P.fcw d
  fcb : V c main_v5 (ix2 (0 : Fin 1) (0 : Fin 1)) = P.fcb

variable {V} {Gr : Fin 256 → Fin 8 → Graph} {P : Params} {c : Dev nD}

/-- The graph number of a row of the third region's array. -/
def gOf (k : Fin 256) : Fin 8 := ⟨k.val / 32, by have := k.isLt; omega⟩
/-- The batch row of an entry of the third region's array. -/
def bOf (k : Fin 256) (l : Fin 8) : Fin 256 := ⟨k.val % 32 * 8 + l.val, by have := l.isLt; omega⟩

set_option maxHeartbeats 1000000 in
/-- The readout of every graph. -/
theorem arr2 (H : In2 V c Gr P) :
    (dat2 V c).arrAt 7 cfg2.N = fun i : S256x1x8.Idx => kVal (Gr (bOf (i 0) (i 2)) (gOf (i 0))) P := by
  refine (dat2 V c).arrAt_eq_of_covers 7 _ (by decide +kernel) fun t hf y => ?_
  blk_simp
  rw [after2_7]
  obtain ⟨b, rfl⟩ : ∃ (b : Fin 8), y = ix3 (0 : Fin 1) (0 : Fin 1) b :=
    ⟨y 2, (eq_ix3 y).trans (by congr 1 <;> exact Subsingleton.elim _ _)⟩
  have h0 : (grid2.coords t 0).val < 8 := (grid2.coords t 0).isLt
  have h1 : (grid2.coords t 1).val < 32 := (grid2.coords t 1).isLt
  have hb := b.isLt
  obtain ⟨g, hg⟩ : ∃ g : Fin 8, g.val = (grid2.coords t 0).val := ⟨⟨(grid2.coords t 0).val, h0⟩, rfl⟩
  obtain ⟨r, hr⟩ : ∃ r : Fin 256, r.val = (grid2.coords t 1).val * 8 + b.val := ⟨⟨(grid2.coords t 1).val * 8 + b.val, by omega⟩, rfl⟩
  obtain ⟨k, hk⟩ : ∃ k : Fin 256, k.val = (grid2.coords t 0).val * 32 + (grid2.coords t 1).val :=
    ⟨⟨(grid2.coords t 0).val * 32 + (grid2.coords t 1).val, by omega⟩, rfl⟩
  have he : ((cfg2.win 7).blk t).view.emb (ix3 (0 : Fin 1) (0 : Fin 1) b) = ix3 k (0 : Fin 1) b := by
    blk_ext [idx2_7 t]
  rw [he]
  refine (out2_7_val _ _ _ _ _ _ _ b).trans ?_
  show _ = kVal (Gr (bOf k b) (gOf k)) P
  have eg : gOf k = g := Fin.ext (by show k.val / 32 = g.val; omega)
  have er : bOf k b = r := Fin.ext (by show k.val % 32 * 8 + b.val = r.val; omega)
  rw [eg, er]
  unfold read2 kVal fcOut
  have e0 : ∀ i j, iblk2 V c 0 t (ix3 (0 : Fin 1) i j) = kCt (Gr r g) i j := fun i j => Eq.trans (by blk_ext! [iblk2, idx2_0 t]) (H.ct g r i j)
  have e1 : ∀ d n, iblk2 V c 1 t (ix4 (0 : Fin 1) d b n) = kH2 (Gr r g) P d n := fun d n => Eq.trans (by blk_ext! [iblk2, idx2_1 t]) (H.h g d r n)
  have e2 : ∀ n, iblk2 V c 2 t (ix3 (0 : Fin 1) b n) = kA2 (Gr r g) P P.as2 n := fun n => Eq.trans (by blk_ext! [iblk2, idx2_2 t]) (H.sa g r n)
  have e3 : ∀ n, iblk2 V c 3 t (ix3 (0 : Fin 1) b n) = kA2 (Gr r g) P P.ad2 n := fun n => Eq.trans (by blk_ext! [iblk2, idx2_3 t]) (H.da g r n)
  have e4 : ∀ d, iblk2 V c 4 t (ix2 (0 : Fin 1) d) = P.b2 d := fun d => Eq.trans (by blk_ext! [iblk2, idx2_4 t]) (H.b2 d)
  have e5 : ∀ d, iblk2 V c 5 t (ix2 d (0 : Fin 1)) = P.fcw d := fun d => Eq.trans (by blk_ext! [iblk2, idx2_5 t]) (H.fcw d)
  have e6 : iblk2 V c 6 t (ix2 (0 : Fin 1) (0 : Fin 1)) = P.fcb := Eq.trans (by blk_ext! [iblk2, idx2_6 t]) H.fcb
  simp only [e0, e1, e2, e3, e4, e5, e6]

end Cert.KernelIdeal.Gen

end
-- ==== Proof.K3.lean ====
module

public import proofs.«01_k».proof.Proof.KLib
public import proofs.«01_k».proof.Proof.Gen.KernelIdeal.Frame
public import Idealize.ShloMosaic.Lib.Pipeline.Value

@[expose] public section

noncomputable section

/-! # What the kernel's last region computes: the three linear layers -/

namespace Cert.KernelIdeal.Gen

open Idealize.ShloMosaic Cert.Gat

/-- The last region's result: the three linear layers of every row. -/
theorem out3_7_val (x0 : Vec Ideal S256x8 .f32) (x1 : Vec Ideal S8x128 .f32) (x2 : Vec Ideal S1x128 .f32) (x3 : Vec Ideal S128x128 .f32)
    (x4 : Vec Ideal S1x128 .f32) (x5 : Vec Ideal S128x1 .f32) (x6 : Vec Ideal S1x1 .f32) (b : Fin 256) :
    out3_7 (F := Ideal) x0 x1 x2 x3 x4 x5 x6 (ix2 b (0 : Fin 1))
      = mlp ⟨fun g k => x1 (ix2 g k), fun k => x2 (ix2 (0 : Fin 1) k), fun k l => x3 (ix2 k l), fun l => x4 (ix2 (0 : Fin 1) l),
          fun l => x5 (ix2 l (0 : Fin 1)), x6 (ix2 (0 : Fin 1) (0 : Fin 1))⟩ (fun g => x0 (ix2 b g)) := by
  unfold out3_7
  rw [View.canon_unit_zero (by decide)]
  unfold_payloads
  pointwise [dot_S256x8_S8x128_S256x128_1_0_0_1_n_n, dot_S256x128_S128x128_S256x128_1_0_0_1_n_n, dot_S256x128_S128x1_S256x1_1_0_0_1_n_n]
  rfl

end Cert.KernelIdeal.Gen

end
-- ==== Proof.KArr3.lean ====
module

public import proofs.«01_k».proof.Proof.Model
public import proofs.«01_k».proof.Proof.K3
public import Idealize.ShloMosaic.Lib.Pipeline.ValueKit

@[expose] public section

noncomputable section

/-! # The last region's array -/

namespace Cert.KernelIdeal.Gen

open Idealize.ShloMosaic Idealize.ShloMosaic.TcCoe Cert.Gat

/-- The block that window 0 of call 3 names at every grid point. -/
theorem idx3_0 : ∀ t : Fin cfg3.N, win3_0.index t = ![0, 0] := (by decide +kernel : ∀ t : Fin grid3.N, _)
/-- The block that window 1 of call 3 names at every grid point. -/
theorem idx3_1 : ∀ t : Fin cfg3.N, win3_1.index t = ![0, 0] := (by decide +kernel : ∀ t : Fin grid3.N, _)
/-- The block that window 2 of call 3 names at every grid point. -/
theorem idx3_2 : ∀ t : Fin cfg3.N, win3_2.index t = ![0, 0] := (by decide +kernel : ∀ t : Fin grid3.N, _)
/-- The block that window 3 of call 3 names at every grid point. -/
theorem idx3_3 : ∀ t : Fin cfg3.N, win3_3.index t = ![0, 0] := (by decide +kernel : ∀ t : Fin grid3.N, _)
/-- The block that window 4 of call 3 names at every grid point. -/
theorem idx3_4 : ∀ t : Fin cfg3.N, win3_4.index t = ![0, 0] := (by decide +kernel : ∀ t : Fin grid3.N, _)
/-- The block that window 5 of call 3 names at every grid point. -/
theorem idx3_5 : ∀ t : Fin cfg3.N, win3_5.index t = ![0, 0] := (by decide +kernel : ∀ t : Fin grid3.N, _)
/-- The block that window 6 of call 3 names at every grid point. -/
theorem idx3_6 : ∀ t : Fin cfg3.N, win3_6.index t = ![0, 0] := (by decide +kernel : ∀ t : Fin grid3.N, _)
/-- The block that window 7 of call 3 names at every grid point. -/
theorem idx3_7 : ∀ t : Fin cfg3.N, win3_7.index t = ![0, 0] := (by decide +kernel : ∀ t : Fin grid3.N, _)

variable (V : (c : Dev nD) → (b : Ref sig .tc) → Buf (Elt Ideal) ((c : Thread nD τ).loc b))

/-- What the last region's argument arrays hold. -/
structure In3 (c : Dev nD) (v : Fin 256 → Fin 8 → EReal) (M : Mlp) : Prop where
  v : ∀ b g, V c main_v8 (ix2 b g) = v b g
  w1 : ∀ g k, V c main_arg13 (ix2 g k) = M.w1 g k
  b1 : ∀ k, V c main_v9 (ix2 (0 : Fin 1) k) = M.b1 k
  w2 : ∀ k l, V c main_arg15 (ix2 k l) = M.w2 k l
  b2 : ∀ l, V c main_v10 (ix2 (0 : Fin 1) l) = M.b2 l
  w3 : ∀ l, V c main_arg17 (ix2 l (0 : Fin 1)) = M.w3 l
  b3 : V c main_v11 (ix2 (0 : Fin 1) (0 : Fin 1)) = M.b3

variable {V} {v : Fin 256 → Fin 8 → EReal} {M : Mlp} {c : Dev nD}

set_option maxHeartbeats 1000000 in
/-- The three linear layers of every row. -/
theorem arr3 (H : In3 V c v M) : (dat3 V c).arrAt 7 cfg3.N = fun i : S256x1.Idx => mlp M (v (i 0)) := by
  refine (dat3 V c).arrAt_eq_of_covers 7 _ (by decide +kernel) fun t hf y => ?_
  blk_simp
  rw [after3_7]
  obtain ⟨b, rfl⟩ : ∃ (b : Fin 256), y = ix2 b (0 : Fin 1) :=
    ⟨y 0, (eq_ix2 y).trans (by congr 1; exact Subsingleton.elim _ _)⟩
  have he : ((cfg3.win 7).blk t).view.emb (ix2 b (0 : Fin 1)) = ix2 b (0 : Fin 1) := by
    blk_ext [idx3_7 t]
  rw [he]
  refine (out3_7_val _ _ _ _ _ _ _ b).trans ?_
  show mlp _ _ = mlp M (v b)
  have e0 : ∀ g, iblk3 V c 0 t (ix2 b g) = v b g := fun g => Eq.trans (by blk_ext! [iblk3, idx3_0 t]) (H.v b g)
  have e1 : ∀ g k, iblk3 V c 1 t (ix2 g k) = M.w1 g k := fun g k => Eq.trans (by blk_ext! [iblk3, idx3_1 t]) (H.w1 g k)
  have e2 : ∀ k, iblk3 V c 2 t (ix2 (0 : Fin 1) k) = M.b1 k := fun k => Eq.trans (by blk_ext! [iblk3, idx3_2 t]) (H.b1 k)
  have e3 : ∀ k l, iblk3 V c 3 t (ix2 k l) = M.w2 k l := fun k l => Eq.trans (by blk_ext! [iblk3, idx3_3 t]) (H.w2 k l)
  have e4 : ∀ l, iblk3 V c 4 t (ix2 (0 : Fin 1) l) = M.b2 l := fun l => Eq.trans (by blk_ext! [iblk3, idx3_4 t]) (H.b2 l)
  have e5 : ∀ l, iblk3 V c 5 t (ix2 l (0 : Fin 1)) = M.w3 l := fun l => Eq.trans (by blk_ext! [iblk3, idx3_5 t]) (H.w3 l)
  have e6 : iblk3 V c 6 t (ix2 (0 : Fin 1) (0 : Fin 1)) = M.b3 := Eq.trans (by blk_ext! [iblk3, idx3_6 t]) H.b3
  simp only [e0, e1, e2, e3, e4, e5, e6]

end Cert.KernelIdeal.Gen

end
-- ==== Proof.KVal.lean ====
module

public import proofs.«01_k».proof.Proof.KArr0
public import proofs.«01_k».proof.Proof.KArr1
public import proofs.«01_k».proof.Proof.KArr2
public import proofs.«01_k».proof.Proof.KArr3
public import Idealize.ShloMosaic.Lib.Claim
public import Idealize.ShloMosaic.Lib.Pointwise

@[expose] public section

noncomputable section

/-! # The kernel's result, from the launch's arrays -/

namespace Cert.KernelIdeal.Gen

open Idealize.ShloMosaic Idealize.ShloMosaic.TcCoe Idealize.ShloMosaic.Tactic Cert.Gat

/-- What the argument arrays hold at the launch. -/
structure Args (m : (ℓ : Loc nD τ sig) → Buf (Elt Ideal) ℓ) (c : Dev nD) (X : Fin 256 → Fin 5000 → EReal)
    (ei : Fin 8 → Fin 2 → Fin 1600 → BitVec 32) (gi : Fin 8 → Fin 400 → BitVec 32) (P : Params) (M : Mlp) : Prop where
  genes : ∀ g n, (gi g n).toNat < 5000
  nodes : ∀ g r e, (ei g r e).toNat < 400
  x : ∀ b k, m ((c : Thread nD τ).loc main_arg0) (ix2 b k) = X b k
  ei : ∀ g r e, m ((c : Thread nD τ).loc main_arg1) (ix3 g r e) = ei g r e
  gi : ∀ g n, m ((c : Thread nD τ).loc main_arg2) (ix2 g n) = gi g n
  w1 : ∀ d, m ((c : Thread nD τ).loc main_arg3) (ix2 (0 : Fin 1) d) = P.w1 d
  as1 : ∀ h j, m ((c : Thread nD τ).loc main_arg4) (ix2 h j) = P.as1 h j
  ad1 : ∀ h j, m ((c : Thread nD τ).loc main_arg5) (ix2 h j) = P.ad1 h j
  b1 : ∀ d, m ((c : Thread nD τ).loc main_arg6) (ix1 d) = P.b1 d
  w2 : ∀ k d, m ((c : Thread nD τ).loc main_arg7) (ix2 k d) = P.w2 k d
  as2 : ∀ d, m ((c : Thread nD τ).loc main_arg8) (ix2 (0 : Fin 1) d) = P.as2 d
  ad2 : ∀ d, m ((c : Thread nD τ).loc main_arg9) (ix2 (0 : Fin 1) d) = P.ad2 d
  b2 : ∀ d, m ((c : Thread nD τ).loc main_arg10) (ix1 d) = P.b2 d
  fcw : ∀ d, m ((c : Thread nD τ).loc main_arg11) (ix2 d (0 : Fin 1)) = P.fcw d
  fcb : m ((c : Thread nD τ).loc main_arg12) (ix1 (0 : Fin 1)) = P.fcb
  mw1 : ∀ g k, m ((c : Thread nD τ).loc main_arg13) (ix2 g k) = M.w1 g k
  mb1 : ∀ k, m ((c : Thread nD τ).loc main_arg14) (ix1 k) = M.b1 k
  mw2 : ∀ k l, m ((c : Thread nD τ).loc main_arg15) (ix2 k l) = M.w2 k l
  mb2 : ∀ l, m ((c : Thread nD τ).loc main_arg16) (ix1 l) = M.b2 l
  mw3 : ∀ l, m ((c : Thread nD τ).loc main_arg17) (ix2 l (0 : Fin 1)) = M.w3 l
  mb3 : m ((c : Thread nD τ).loc main_arg18) (ix1 (0 : Fin 1)) = M.b3

variable {m : (ℓ : Loc nD τ sig) → Buf (Elt Ideal) ℓ} (ρ : Dev nD → PrngReg) {c : Dev nD} {X : Fin 256 → Fin 5000 → EReal}
  {ei : Fin 8 → Fin 2 → Fin 1600 → BitVec 32} {gi : Fin 8 → Fin 400 → BitVec 32} {P : Params} {M : Mlp}

/-- The gene array with its unit dimension. -/
theorem v0_val (H : Args m c X ei gi P M) (g : Fin 8) (n : Fin 400) : V1 m ρ c main_v0 (ix3 g (0 : Fin 1) n) = gi g n := by
  refine Eq.trans ?_ (H.gi g n)
  show StableHlo.after hostOps0 (W0 m ρ c) (Proc.devRef .tc main_v0) _ = _
  after_results
  pointwise

/-- The first layer's bias as a row. -/
theorem v2_val (H : Args m c X ei gi P M) (d : Fin 32) : V3 m ρ c main_v2 (ix2 (0 : Fin 1) d) = P.b1 d := by
  refine Eq.trans ?_ (H.b1 d)
  rw [← W2_args m ρ c main_arg6 (by decide)]
  show StableHlo.after hostOps1 (W2 m ρ c) (Proc.devRef .tc main_v2) _ = _
  after_results
  pointwise

/-- The second layer's bias as a row. -/
theorem v4_val (H : Args m c X ei gi P M) (d : Fin 32) : V5 m ρ c main_v4 (ix2 (0 : Fin 1) d) = P.b2 d := by
  refine Eq.trans ?_ (H.b2 d)
  rw [← W4_args m ρ c main_arg10 (by decide)]
  show StableHlo.after hostOps2 (W4 m ρ c) (Proc.devRef .tc main_v4) _ = _
  after_results
  pointwise

/-- The readout's bias as a row. -/
theorem v5_val (H : Args m c X ei gi P M) : V5 m ρ c main_v5 (ix2 (0 : Fin 1) (0 : Fin 1)) = P.fcb := by
  refine Eq.trans ?_ (H.fcb)
  rw [← W4_args m ρ c main_arg12 (by decide)]
  show StableHlo.after hostOps2 (W4 m ρ c) (Proc.devRef .tc main_v5) _ = _
  after_results
  pointwise

/-- The first linear layer's bias as a row. -/
theorem v9_val (H : Args m c X ei gi P M) (d : Fin 128) : V7 m ρ c main_v9 (ix2 (0 : Fin 1) d) = M.b1 d := by
  refine Eq.trans ?_ (H.mb1 d)
  rw [← W6_args m ρ c main_arg14 (by decide)]
  show StableHlo.after hostOps3 (W6 m ρ c) (Proc.devRef .tc main_v9) _ = _
  after_results
  pointwise

/-- The second linear layer's bias as a row. -/
theorem v10_val (H : Args m c X ei gi P M) (d : Fin 128) : V7 m ρ c main_v10 (ix2 (0 : Fin 1) d) = M.b2 d := by
  refine Eq.trans ?_ (H.mb2 d)
  rw [← W6_args m ρ c main_arg16 (by decide)]
  show StableHlo.after hostOps3 (W6 m ρ c) (Proc.devRef .tc main_v10) _ = _
  after_results
  pointwise

/-- The last linear layer's bias as a row. -/
theorem v11_val (H : Args m c X ei gi P M) : V7 m ρ c main_v11 (ix2 (0 : Fin 1) (0 : Fin 1)) = M.b3 := by
  refine Eq.trans ?_ (H.mb3)
  rw [← W6_args m ρ c main_arg18 (by decide)]
  show StableHlo.after hostOps3 (W6 m ρ c) (Proc.devRef .tc main_v11) _ = _
  after_results
  pointwise

/-- The first region's array: the number of edges between two nodes. -/
theorem v1_val (H : Args m c X ei gi P M) (b : Fin 256) :
    W2 m ρ c (Proc.devRef .tc main_v1) = fun i : S8x400x400.Idx => kCt (graphOf X ei gi b (i 0)) (i 1) (i 2) :=
  (W2_arr m ρ c 1).trans (arr0 (V1 m ρ) c ei (fun g r e => (congrFun (W1_args m ρ c main_arg1 (by decide)) _).trans (H.ei g r e)) H.nodes
    (graphOf X ei gi b) (fun _ _ => rfl) (fun _ _ => rfl))

/-- The second region's argument arrays. -/
theorem in1 (H : Args m c X ei gi P M) : In1 (V3 m ρ) c X ei gi P where
  genes := H.genes
  nodes := H.nodes
  x b k := (congrFun (W3_args m ρ c main_arg0 (by decide)) _).trans (H.x b k)
  gi g n := (congrFun ((W3_of m ρ c main_v0 (by decide)).trans (W2_of m ρ c main_v0 (by decide))) _).trans (v0_val ρ H g n)
  ei g r e := (congrFun (W3_args m ρ c main_arg1 (by decide)) _).trans (H.ei g r e)
  w1 d := (congrFun (W3_args m ρ c main_arg3 (by decide)) _).trans (H.w1 d)
  as1 h j := (congrFun (W3_args m ρ c main_arg4 (by decide)) _).trans (H.as1 h j)
  ad1 h j := (congrFun (W3_args m ρ c main_arg5 (by decide)) _).trans (H.ad1 h j)
  b1 d := v2_val ρ H d
  w2 k d := (congrFun (W3_args m ρ c main_arg7 (by decide)) _).trans (H.w2 k d)
  as2 d := (congrFun (W3_args m ρ c main_arg8 (by decide)) _).trans (H.as2 d)
  ad2 d := (congrFun (W3_args m ρ c main_arg9 (by decide)) _).trans (H.ad2 d)

/-- The third region's argument arrays. -/
theorem in2 (H : Args m c X ei gi P M) : In2 (V5 m ρ) c (graphOf X ei gi) P where
  ct g b i j := (congrFun ((W5_of m ρ c main_v1 (by decide)).trans ((W4_of_ne m ρ c main_v1 (by decide)).trans
    ((W3_of m ρ c main_v1 (by decide)).trans (v1_val ρ H b)))) (ix3 g i j)).trans rfl
  h g d b n := (congrFun ((W5_of m ρ c main_v3_0 (by decide)).trans ((W4_arr m ρ c 10).trans (arr1_10 (in1 ρ H)))) (ix4 g d b n)).trans rfl
  sa g b n := (congrFun ((W5_of m ρ c main_v3_1 (by decide)).trans ((W4_arr m ρ c 11).trans (arr1_11 (in1 ρ H)))) (ix3 g b n)).trans rfl
  da g b n := (congrFun ((W5_of m ρ c main_v3_2 (by decide)).trans ((W4_arr m ρ c 12).trans (arr1_12 (in1 ρ H)))) (ix3 g b n)).trans rfl
  b2 d := v4_val ρ H d
  fcw d := (congrFun (W5_args m ρ c main_arg11 (by decide)) _).trans (H.fcw d)
  fcb := v5_val ρ H

/-- The eight graphs' values of a row. -/
theorem v8_val (H : Args m c X ei gi P M) (b : Fin 256) (g : Fin 8) :
    V7 m ρ c main_v8 (ix2 b g) = kVal (graphOf X ei gi b g) P := by
  have h6 : W6 m ρ c (Proc.devRef .tc main_v6) = fun i : S256x1x8.Idx => kVal (graphOf X ei gi (bOf (i 0) (i 2)) (gOf (i 0))) P :=
    (W6_arr m ρ c 7).trans (arr2 (in2 ρ H))
  show StableHlo.after hostOps3 (W6 m ρ c) (Proc.devRef .tc main_v8) _ = _
  after_results
  rw [h6]
  pointwise
  have hb : b.val < 256 := b.isLt
  have hg : g.val < 8 := g.isLt
  congr 2
  · exact Fin.ext (by show (g.val * 32 + b.val / 8) % 32 * 8 + b.val % 8 = b.val; omega)
  · exact Fin.ext (by show (g.val * 32 + b.val / 8) / 32 = g.val; omega)

/-- The last region's argument arrays. -/
theorem in3 (H : Args m c X ei gi P M) : In3 (V7 m ρ) c (fun b g => kVal (graphOf X ei gi b g) P) M where
  v b g := v8_val ρ H b g
  w1 g k := (congrFun (W7_args m ρ c main_arg13 (by decide)) _).trans (H.mw1 g k)
  b1 k := v9_val ρ H k
  w2 k l := (congrFun (W7_args m ρ c main_arg15 (by decide)) _).trans (H.mw2 k l)
  b2 l := v10_val ρ H l
  w3 l := (congrFun (W7_args m ρ c main_arg17 (by decide)) _).trans (H.mw3 l)
  b3 := v11_val ρ H

/-- The kernel's result array. -/
theorem v12_val (H : Args m c X ei gi P M) :
    W8 m ρ c (Proc.devRef .tc main_v12) = fun i : S256x1.Idx => result kVal X ei gi P M (i 0) := by
  unfold result
  have h := arr3 (in3 ρ H)
  exact (W8_arr m ρ c 7).trans h

end Cert.KernelIdeal.Gen

end
-- ==== Proof.KRun.lean ====
module

public import proofs.«01_k».proof.Proof.Gen.KernelIdeal.Frame

@[expose] public section

set_option maxRecDepth 16384

noncomputable section

/-! # The kernel's run, with its result

Every execution of the kernel program ends with the result array at the contents that the four regions' write-backs and
the host operations between them determine (`W8`), and with every argument as launched.
-/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel ends with the last boundary's contents in its result and every argument unchanged. -/
theorem value : θ_run defs (onTc (τ := τ) (main (F := F))) ⟨m, fun _ => 0, ρ⟩ (fun r => ∀ c : Dev nD,
      r.2.mem ((c.tc : Thread nD τ).loc main_v12) = W8 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨h c _ (mem_uc main_v12 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c)⟩)

end Cert.KernelIdeal.Gen

end
-- ==== Proof.Pre.lean ====
module

public import proofs.«01_k».proof.Proof.Gen.Pre_inputs_in_range
public import Idealize.ShloMosaic.Lib.Pointwise
public import Idealize.ShloMosaic.Lib.StableHlo.Predicate
public import Idealize.ShloMosaic.PureOps.Ideal.Laws

@[expose] public section

noncomputable section

/-! # What the precondition says -/

namespace Cert.Pre_inputs_in_range

open Idealize.ShloMosaic Cert.Pre_inputs_in_range.Gen

/-- A word that is at least zero and less than a bound, both read signed, is less than the bound. -/
theorem word_lt (a : BitVec 32) (n : ℕ) (hn : n < 2 ^ 31)
    (h : IntOp.andi (IntOp.cmpi .sge a 0#32) (IntOp.cmpi .slt a (BitVec.ofNat 32 n)) = 1#1) : a.toNat < n := by
  have hand : ∀ p q : Bool, BitVec.ofBool p &&& BitVec.ofBool q = 1#1 → p = true ∧ q = true := by decide
  obtain ⟨h1, h2⟩ := hand _ _ h
  have h3 : (0#32 : BitVec 32).sle a = true := h1
  have h4 : a.slt (BitVec.ofNat 32 n) = true := h2
  have h5 := BitVec.sle_iff_toInt_le.mp h3
  have h6 := BitVec.slt_iff_toInt_lt.mp h4
  rw [StableHlo.Predicate.toInt_ofNat_small n hn] at h6
  have h7 : (0#32 : BitVec 32).toInt = 0 := by decide
  rw [h7] at h5
  have h8 := BitVec.toInt_eq_toNat_cond a
  have h9 := a.isLt
  split at h8 <;> omega

/-- A value whose magnitude is less than some value is finite. -/
theorem finite_of (a : EReal) (t : EReal) (h : BitVec.ofBool (decide (max a (-a) < t)) = 1#1) : ∃ r : ℝ, a = r := by
  have hb : ∀ p : Bool, BitVec.ofBool p = 1#1 → p = true := by decide
  have h1 : max a (-a) < t := of_decide_eq_true (hb _ h)
  have h2 := max_lt_iff.mp (lt_of_lt_of_le h1 le_top)
  induction a with
  | bot => exact absurd h2.2 (by simp)
  | top => exact absurd h2.1 (by simp)
  | coe r => exact ⟨r, rfl⟩

section Args

variable (x0 : FVec Ideal S256x5000 .f32) (x1 : IVec S8x2x1600 32) (x2 : IVec S8x400 32) (x3 : FVec Ideal S1x32 .f32)
  (x4 x5 : FVec Ideal S4x8 .f32) (x6 : FVec Ideal S32 .f32) (x7 : FVec Ideal S32x32 .f32) (x8 x9 : FVec Ideal S1x32 .f32)
  (x10 : FVec Ideal S32 .f32) (x11 : FVec Ideal S32x1 .f32) (x12 : FVec Ideal S1 .f32) (x13 : FVec Ideal S8x128 .f32)
  (x14 : FVec Ideal S128 .f32) (x15 : FVec Ideal S128x128 .f32) (x16 : FVec Ideal S128 .f32) (x17 : FVec Ideal S128x1 .f32)
  (x18 : FVec Ideal S1 .f32)

/-- Every edge word names a node. -/
theorem edges_lt (h : (fn (F := Ideal) x0 x1 x2 x3 x4 x5 x6 x7 x8 x9 x10 x11 x12 x13 x14 x15 x16 x17 x18).1 = (fun _ => 1#1))
    (g : Fin 8) (r : Fin 2) (e : Fin 1600) : (x1 (ix3 g r e)).toNat < 400 := by
  have h := congrFun h (ix3 g r e)
  revert h
  unfold fn fn_part1
  dsimp only
  pointwise
  exact word_lt _ 400 (by omega)

/-- Every gene word names an expression. -/
theorem genes_lt (h : (fn (F := Ideal) x0 x1 x2 x3 x4 x5 x6 x7 x8 x9 x10 x11 x12 x13 x14 x15 x16 x17 x18).2.1 = (fun _ => 1#1))
    (g : Fin 8) (n : Fin 400) : (x2 (ix2 g n)).toNat < 5000 := by
  have h := congrFun h (ix2 g n)
  revert h
  unfold fn fn_part1
  dsimp only
  pointwise
  exact word_lt _ 5000 (by omega)

/-- Every expression is finite. -/
theorem x_fin (h : (fn (F := Ideal) x0 x1 x2 x3 x4 x5 x6 x7 x8 x9 x10 x11 x12 x13 x14 x15 x16 x17 x18).2.2.1 = (fun _ => 1#1))
    (b : Fin 256) (k : Fin 5000) : ∃ r : ℝ, x0 (ix2 b k) = r := by
  have h := congrFun h (ix2 b k)
  revert h
  unfold fn fn_part1
  dsimp only
  pointwise
  exact finite_of _ _

/-- Every first weight is finite. -/
theorem w_fin (h : (fn (F := Ideal) x0 x1 x2 x3 x4 x5 x6 x7 x8 x9 x10 x11 x12 x13 x14 x15 x16 x17 x18).2.2.2.1 = (fun _ => 1#1))
    (b : Fin 1) (k : Fin 32) : ∃ r : ℝ, x3 (ix2 b k) = r := by
  have h := congrFun h (ix2 b k)
  revert h
  unfold fn fn_part1
  dsimp only
  pointwise
  exact finite_of _ _

/-- Every first source vector is finite. -/
theorem s_fin (h : (fn (F := Ideal) x0 x1 x2 x3 x4 x5 x6 x7 x8 x9 x10 x11 x12 x13 x14 x15 x16 x17 x18).2.2.2.2.1 = (fun _ => 1#1))
    (b : Fin 4) (k : Fin 8) : ∃ r : ℝ, x4 (ix2 b k) = r := by
  have h := congrFun h (ix2 b k)
  revert h
  unfold fn fn_part1
  dsimp only
  pointwise
  exact finite_of _ _

/-- Every first destination vector is finite. -/
theorem d_fin (h : (fn (F := Ideal) x0 x1 x2 x3 x4 x5 x6 x7 x8 x9 x10 x11 x12 x13 x14 x15 x16 x17 x18).2.2.2.2.2 = (fun _ => 1#1))
    (b : Fin 4) (k : Fin 8) : ∃ r : ℝ, x5 (ix2 b k) = r := by
  have h := congrFun h (ix2 b k)
  revert h
  unfold fn fn_part1
  dsimp only
  pointwise
  exact finite_of _ _

end Args

end Cert.Pre_inputs_in_range

end
-- ==== Proof.RFlat.lean ====
module

public import proofs.«01_k».proof.Proof.KLib

@[expose] public section

noncomputable section

/-! # The disjoint union of the graphs: its nodes, its edges, and one attention layer on it

The reference lays the 2048 graphs (eight for each of the 256 rows) side by side: node `n` of graph `p` has the number
`p * 400 + n`, edge `e` of graph `p` the number `p * 1600 + e`, and every node's own loop comes after all the edges.
-/

namespace Cert.Gat

open Idealize.ShloMosaic

/-- The number of node `n` of graph `p`. -/
def nd (p : Fin 2048) (n : Fin 400) : Fin 819200 := ⟨p.val * 400 + n.val, by have := p.isLt; have := n.isLt; omega⟩
/-- The number of edge `e` of graph `p`. -/
def ed (p : Fin 2048) (e : Fin 1600) : Fin 4096000 := ⟨p.val * 1600 + e.val, by have := p.isLt; have := e.isLt; omega⟩
/-- The number of a node's own loop. -/
def lp (q : Fin 819200) : Fin 4096000 := ⟨3276800 + q.val, by have := q.isLt; omega⟩
/-- The ends of all edges, named by a function on each graph's edges; a loop ends at its node. -/
def ends (f : Fin 2048 → Fin 1600 → Fin 400) (e : Fin 4096000) : Fin 819200 :=
  if h : e.val < 3276800 then nd ⟨e.val / 1600, by omega⟩ (f ⟨e.val / 1600, by omega⟩ ⟨e.val % 1600, by omega⟩)
  else ⟨e.val - 3276800, by have := e.isLt; omega⟩

/-- A node's number determines its graph and its place there. -/
theorem nd_inj {p p' : Fin 2048} {n n' : Fin 400} : nd p n = nd p' n' ↔ p = p' ∧ n = n' := by
  constructor
  · intro h
    have h' : p.val * 400 + n.val = p'.val * 400 + n'.val := congrArg Fin.val h
    have := n.isLt
    have := n'.isLt
    exact ⟨Fin.ext (by omega), Fin.ext (by omega)⟩
  · rintro ⟨rfl, rfl⟩; rfl

/-- Every number is a node's. -/
theorem nd_surj (q : Fin 819200) : ∃ p n, q = nd p n :=
  ⟨⟨q.val / 400, by have := q.isLt; omega⟩, ⟨q.val % 400, by omega⟩, Fin.ext (by show q.val = q.val / 400 * 400 + q.val % 400; omega)⟩

/-- The end of an edge of graph `p` is the node its graph names. -/
theorem ends_ed (f : Fin 2048 → Fin 1600 → Fin 400) (p : Fin 2048) (e : Fin 1600) : ends f (ed p e) = nd p (f p e) := by
  have hp := p.isLt
  have he := e.isLt
  have hv : (ed p e).val = p.val * 1600 + e.val := rfl
  have h1 : (⟨(ed p e).val / 1600, by omega⟩ : Fin 2048) = p := Fin.ext (by show (ed p e).val / 1600 = p.val; omega)
  have h2 : (⟨(ed p e).val % 1600, by omega⟩ : Fin 1600) = e := Fin.ext (by show (ed p e).val % 1600 = e.val; omega)
  unfold ends
  rw [dif_pos (by omega), h1, h2]

/-- The end of a loop is its node. -/
theorem ends_lp (f : Fin 2048 → Fin 1600 → Fin 400) (q : Fin 819200) : ends f (lp q) = q := by
  have hv : (lp q).val = 3276800 + q.val := rfl
  unfold ends
  rw [dif_neg (by omega)]
  exact Fin.ext (by show (lp q).val - 3276800 = q.val; omega)

/-- A sum in two parts. -/
theorem sum_parts {a b m : Nat} (hm : a + b = m) (F : Fin m → EReal) :
    ∑ e, F e = (∑ i : Fin a, F ⟨i.val, by have := i.isLt; omega⟩) + ∑ j : Fin b, F ⟨a + j.val, by have := j.isLt; omega⟩ := by
  subst hm
  exact Fin.sum_univ_add F

/-- Counting pairs row by row stays below the number of pairs. -/
theorem grid_lt {P E : Nat} (p : Fin P) (e : Fin E) : p.val * E + e.val < P * E := by
  have h : (p.val + 1) * E ≤ P * E := Nat.mul_le_mul_right E p.isLt
  have := e.isLt
  rw [Nat.add_mul, Nat.one_mul] at h
  omega

/-- A sum block by block. -/
theorem sum_blocks {P E m : Nat} (hm : P * E = m) (F : Fin m → EReal) :
    ∑ i, F i = ∑ p : Fin P, ∑ e : Fin E, F ⟨p.val * E + e.val, hm ▸ grid_lt p e⟩ := by
  subst hm
  rw [← Fintype.sum_prod_type']
  refine (Fintype.sum_equiv (finProdFinEquiv (m := P) (n := E)) _ _ fun x => ?_).symm
  refine congrArg F (Fin.ext ?_)
  show x.1.val * E + x.2.val = x.2.val + E * x.1.val
  rw [Nat.mul_comm, Nat.add_comm]

/-- A sum over all edges: graph by graph, then the loops. -/
theorem sum_edges (F : Fin 4096000 → EReal) : ∑ e, F e = (∑ p, ∑ e, F (ed p e)) + ∑ q, F (lp q) := by
  rw [sum_parts (a := 3276800) (b := 819200) (by decide) F,
    sum_blocks (P := 2048) (E := 1600) (by decide) (fun i : Fin 3276800 => F ⟨i.val, by have := i.isLt; omega⟩)]
  rfl

/-- A sum over the edges into one node: its graph's edges into it, then its loop. -/
theorem sum_into (f : Fin 2048 → Fin 1600 → Fin 400) (F : Fin 4096000 → EReal) (p : Fin 2048) (n : Fin 400) :
    ∑ e with ends f e = nd p n, F e = (∑ e with f p e = n, F (ed p e)) + F (lp (nd p n)) := by
  rw [Finset.sum_filter, sum_edges]
  simp only [ends_ed, ends_lp, nd_inj]
  refine congrArg₂ (fun x y : EReal => x + y) ?_ ?_
  · rw [Finset.sum_eq_single p, Finset.sum_filter]
    · simp only [true_and]
    · intro b _ hb
      exact Finset.sum_eq_zero fun e _ => if_neg fun h => hb h.1
    · intro h; exact absurd (Finset.mem_univ _) h
  · rw [Finset.sum_ite_eq' Finset.univ (nd p n), if_pos (Finset.mem_univ _)]

section Layer

variable (Gr : Fin 2048 → Graph)

/-- Every edge's source. -/
def srcs : Fin 4096000 → Fin 819200 := ends fun p => (Gr p).src
/-- Every edge's destination. -/
def dsts : Fin 4096000 → Fin 819200 := ends fun p => (Gr p).dst

variable (sa da h : Fin 819200 → EReal)

/-- Every edge's weight. -/
def fEx (e : Fin 4096000) : EReal := att (sa (srcs Gr e) + da (dsts Gr e))
/-- The sum of the weights into every node. -/
def fDen (q : Fin 819200) : EReal := ∑ e with dsts Gr e = q, fEx Gr sa da e
/-- The normalised sum of the features into every node. -/
def fOut (q : Fin 819200) : EReal :=
  ∑ e with dsts Gr e = q, h (srcs Gr e) * Ideal.div (fEx Gr sa da e) (fDen Gr sa da (dsts Gr e) + eps)

/-- The sum of the weights into a node of the disjoint union is the sum within its own graph. -/
theorem fDen_nd (p : Fin 2048) (n : Fin 400) :
    fDen Gr sa da (nd p n) = gatDen (Gr p) (fun i j => att (sa (nd p i) + da (nd p j))) n := by
  unfold fDen gatDen dsts
  rw [sum_into]
  unfold fEx srcs dsts
  simp only [ends_ed, ends_lp]

/-- The weighted sum of features into a node of the disjoint union is the one within its own graph. -/
theorem fOut_nd (p : Fin 2048) (n : Fin 400) :
    fOut Gr sa da h (nd p n) = gatOut (Gr p) (fun i j => att (sa (nd p i) + da (nd p j))) (fun i => h (nd p i)) n := by
  have he : ∀ e, dsts Gr (ed p e) = nd p ((Gr p).dst e) := fun e => ends_ed _ _ _
  have hl : ∀ q, dsts Gr (lp q) = q := fun q => ends_lp _ _
  have h1 := sum_into (fun p => (Gr p).dst) (fun e => h (srcs Gr e) * Ideal.div (fEx Gr sa da e) (fDen Gr sa da (dsts Gr e) + eps)) p n
  refine h1.trans ?_
  unfold gatOut
  simp only [he, hl, fDen_nd]
  unfold fEx srcs dsts
  simp only [ends_ed, ends_lp]

end Layer

end Cert.Gat

end
-- ==== Proof.RLib.lean ====
module

public import proofs.«01_k».proof.Proof.KLib
public import Idealize.ShloMosaic.Lib.Routing.OpsPair
public import Idealize.ShloMosaic.Lib.StableHlo.Predicate

@[expose] public section

noncomputable section

/-! # Rows added and rows read by a column of index words -/

namespace Cert.Gat

open Idealize.ShloMosaic Idealize.ShloMosaic.StableHlo.Predicate

/-- An update of a scatter of rows lands at `(r, c)` exactly when its index word is `r` and its column `c`. -/
theorem lands2 {R M K : Nat} (wf : ScatterDims.WF ⟨2, ![R, K]⟩ ⟨2, ![M, 1]⟩ ⟨2, ![M, K]⟩ [1] [0] [0] 1) (idx : IVec ⟨2, ![M, 1]⟩ 32)
    (e : Fin M) (k c : Fin K) (r : Fin R) :
    (ScatterDims.mk (s := ⟨2, ![R, K]⟩) (si := ⟨2, ![M, 1]⟩) (u := ⟨2, ![M, K]⟩) [1] [0] [0] 1 wf).resultIdx? (ix2 e k) idx = some (ix2 r c)
      ↔ (idx (ix2 e (0 : Fin 1))).toInt = r.val ∧ k = c := by
  rw [Routing.resultIdx?_eq_some]
  have hs0 : (ScatterDims.mk (s := ⟨2, ![R, K]⟩) (si := ⟨2, ![M, 1]⟩) (u := ⟨2, ![M, K]⟩) [1] [0] [0] 1 wf).start (ix2 e k) idx 0
      = (idx (ix2 e (0 : Fin 1))).toInt := by
    unfold ScatterDims.start
    rw [dif_pos (List.mem_singleton.2 rfl)]
    refine congrArg (fun i => (idx i).toInt) (funext fun b => ?_)
    match b with
    | ⟨0, _⟩ => rfl
    | ⟨1, _⟩ => rfl
  have hs1 : (ScatterDims.mk (s := ⟨2, ![R, K]⟩) (si := ⟨2, ![M, 1]⟩) (u := ⟨2, ![M, K]⟩) [1] [0] [0] 1 wf).start (ix2 e k) idx 1 = 0 := rfl
  have hw0 : (ScatterDims.mk (s := ⟨2, ![R, K]⟩) (si := ⟨2, ![M, 1]⟩) (u := ⟨2, ![M, K]⟩) [1] [0] [0] 1 wf).window (ix2 e k) 0 = 0 := rfl
  have hw1 : (ScatterDims.mk (s := ⟨2, ![R, K]⟩) (si := ⟨2, ![M, 1]⟩) (u := ⟨2, ![M, K]⟩) [1] [0] [0] 1 wf).window (ix2 e k) 1 = k.val := rfl
  constructor
  · intro h
    have h0 := h 0
    have h1 := h 1
    rw [hs0, hw0] at h0
    rw [hs1, hw1] at h1
    refine ⟨?_, Fin.ext ?_⟩
    · have : ((ix2 r c (0 : Fin 2)).val : Int) = r.val := rfl
      omega
    · have : ((ix2 r c (1 : Fin 2)).val : Int) = c.val := rfl
      omega
  · rintro ⟨h, rfl⟩ a
    match a with
    | ⟨0, _⟩ => exact (congrArg₂ (fun x (y : Nat) => x + (y : Int)) hs0 hw0).trans (by rw [h]; simp)
    | ⟨1, _⟩ => exact (congrArg₂ (fun x (y : Nat) => x + (y : Int)) hs1 hw1).trans (by simp)

/-- An update of a scatter of matrices lands at `(r, c, l)` exactly when its index word is `r` and its position `(c, l)`. -/
theorem lands3 {R M K L : Nat} (wf : ScatterDims.WF ⟨3, ![R, K, L]⟩ ⟨2, ![M, 1]⟩ ⟨3, ![M, K, L]⟩ [1, 2] [0] [0] 1) (idx : IVec ⟨2, ![M, 1]⟩ 32)
    (e : Fin M) (k c : Fin K) (j l : Fin L) (r : Fin R) :
    (ScatterDims.mk (s := ⟨3, ![R, K, L]⟩) (si := ⟨2, ![M, 1]⟩) (u := ⟨3, ![M, K, L]⟩) [1, 2] [0] [0] 1 wf).resultIdx? (ix3 e k j) idx = some (ix3 r c l)
      ↔ (idx (ix2 e (0 : Fin 1))).toInt = r.val ∧ k = c ∧ j = l := by
  rw [Routing.resultIdx?_eq_some]
  have hs0 : (ScatterDims.mk (s := ⟨3, ![R, K, L]⟩) (si := ⟨2, ![M, 1]⟩) (u := ⟨3, ![M, K, L]⟩) [1, 2] [0] [0] 1 wf).start (ix3 e k j) idx 0
      = (idx (ix2 e (0 : Fin 1))).toInt := by
    unfold ScatterDims.start
    rw [dif_pos (List.mem_singleton.2 rfl)]
    refine congrArg (fun i => (idx i).toInt) (funext fun b => ?_)
    match b with
    | ⟨0, _⟩ => rfl
    | ⟨1, _⟩ => rfl
  have hs1 : (ScatterDims.mk (s := ⟨3, ![R, K, L]⟩) (si := ⟨2, ![M, 1]⟩) (u := ⟨3, ![M, K, L]⟩) [1, 2] [0] [0] 1 wf).start (ix3 e k j) idx 1 = 0 := rfl
  have hs2 : (ScatterDims.mk (s := ⟨3, ![R, K, L]⟩) (si := ⟨2, ![M, 1]⟩) (u := ⟨3, ![M, K, L]⟩) [1, 2] [0] [0] 1 wf).start (ix3 e k j) idx 2 = 0 := rfl
  have hw0 : (ScatterDims.mk (s := ⟨3, ![R, K, L]⟩) (si := ⟨2, ![M, 1]⟩) (u := ⟨3, ![M, K, L]⟩) [1, 2] [0] [0] 1 wf).window (ix3 e k j) 0 = 0 := rfl
  have hw1 : (ScatterDims.mk (s := ⟨3, ![R, K, L]⟩) (si := ⟨2, ![M, 1]⟩) (u := ⟨3, ![M, K, L]⟩) [1, 2] [0] [0] 1 wf).window (ix3 e k j) 1 = k.val := rfl
  have hw2 : (ScatterDims.mk (s := ⟨3, ![R, K, L]⟩) (si := ⟨2, ![M, 1]⟩) (u := ⟨3, ![M, K, L]⟩) [1, 2] [0] [0] 1 wf).window (ix3 e k j) 2 = j.val := rfl
  constructor
  · intro h
    have h0 := h 0
    have h1 := h 1
    have h2 := h 2
    rw [hs0, hw0] at h0
    rw [hs1, hw1] at h1
    rw [hs2, hw2] at h2
    refine ⟨?_, Fin.ext ?_, Fin.ext ?_⟩
    · have : ((ix3 r c l (0 : Fin 3)).val : Int) = r.val := rfl
      omega
    · have : ((ix3 r c l (1 : Fin 3)).val : Int) = c.val := rfl
      omega
    · have : ((ix3 r c l (2 : Fin 3)).val : Int) = l.val := rfl
      omega
  · rintro ⟨h, rfl, rfl⟩ a
    match a with
    | ⟨0, _⟩ => exact (congrArg₂ (fun x (y : Nat) => x + (y : Int)) hs0 hw0).trans (by rw [h]; simp)
    | ⟨1, _⟩ => exact (congrArg₂ (fun x (y : Nat) => x + (y : Int)) hs1 hw1).trans (by simp)
    | ⟨2, _⟩ => exact (congrArg₂ (fun x (y : Nat) => x + (y : Int)) hs2 hw2).trans (by simp)

/-- Rows added at index words: an entry plus the entries of the rows whose word names its row. -/
theorem add2 {R M K : Nat} (wf : ScatterDims.WF ⟨2, ![R, K]⟩ ⟨2, ![M, 1]⟩ ⟨2, ![M, K]⟩ [1] [0] [0] 1) (x : FVec Ideal ⟨2, ![R, K]⟩ .f32)
    (idx : IVec ⟨2, ![M, 1]⟩ 32) (upd : FVec Ideal ⟨2, ![M, K]⟩ .f32) (r : Fin R) (c : Fin K) :
    Host.scatterAdd (F := Ideal) (ScatterDims.mk (s := ⟨2, ![R, K]⟩) (si := ⟨2, ![M, 1]⟩) (u := ⟨2, ![M, K]⟩) [1] [0] [0] 1 wf) x idx upd (ix2 r c)
      = x (ix2 r c) + ∑ e with (idx (ix2 e (0 : Fin 1))).toInt = r.val, upd (ix2 e c) := by
  show x (ix2 r c) + Finset.sum _ _ = _
  congr 1
  symm
  refine Finset.sum_bij (fun e _ => ix2 e c) (fun e he => ?_) (fun e _ e' _ h => congrFun h (0 : Fin 2)) (fun j hj => ?_) (fun _ _ => rfl)
  · exact Finset.mem_filter.2 ⟨Finset.mem_univ _, (lands2 wf idx e c c r).2 ⟨(Finset.mem_filter.1 he).2, rfl⟩⟩
  · have h := (Finset.mem_filter.1 hj).2
    rw [eq_ix2 j] at h
    obtain ⟨h0, h1⟩ := (lands2 wf idx (j 0) (j 1) c r).1 h
    refine ⟨j 0, Finset.mem_filter.2 ⟨Finset.mem_univ _, h0⟩, ?_⟩
    rw [← h1]
    exact (eq_ix2 j).symm

/-- Matrices added at index words: an entry plus the entries of the matrices whose word names its row. -/
theorem add3 {R M K L : Nat} (wf : ScatterDims.WF ⟨3, ![R, K, L]⟩ ⟨2, ![M, 1]⟩ ⟨3, ![M, K, L]⟩ [1, 2] [0] [0] 1)
    (x : FVec Ideal ⟨3, ![R, K, L]⟩ .f32) (idx : IVec ⟨2, ![M, 1]⟩ 32) (upd : FVec Ideal ⟨3, ![M, K, L]⟩ .f32) (r : Fin R) (c : Fin K) (l : Fin L) :
    Host.scatterAdd (F := Ideal) (ScatterDims.mk (s := ⟨3, ![R, K, L]⟩) (si := ⟨2, ![M, 1]⟩) (u := ⟨3, ![M, K, L]⟩) [1, 2] [0] [0] 1 wf) x idx upd (ix3 r c l)
      = x (ix3 r c l) + ∑ e with (idx (ix2 e (0 : Fin 1))).toInt = r.val, upd (ix3 e c l) := by
  show x (ix3 r c l) + Finset.sum _ _ = _
  congr 1
  symm
  refine Finset.sum_bij (fun e _ => ix3 e c l) (fun e he => ?_) (fun e _ e' _ h => congrFun h (0 : Fin 3)) (fun j hj => ?_) (fun _ _ => rfl)
  · exact Finset.mem_filter.2 ⟨Finset.mem_univ _, (lands3 wf idx e c c l l r).2 ⟨(Finset.mem_filter.1 he).2, rfl, rfl⟩⟩
  · have h := (Finset.mem_filter.1 hj).2
    rw [eq_ix3 j] at h
    obtain ⟨h0, h1, h2⟩ := (lands3 wf idx (j 0) (j 1) c (j 2) l r).1 h
    refine ⟨j 0, Finset.mem_filter.2 ⟨Finset.mem_univ _, h0⟩, ?_⟩
    rw [← h1, ← h2]
    exact (eq_ix3 j).symm

/-- Rows read at index words. -/
theorem row2 {R M K : Nat} (wf : GatherDims.WF ⟨2, ![R, K]⟩ ⟨2, ![M, 1]⟩ ⟨2, ![M, K]⟩ [1] [0] [] [0] [] 1 ![1, K]) (x : FVec Ideal ⟨2, ![R, K]⟩ .f32)
    (idx : IVec ⟨2, ![M, 1]⟩ 32) (e : Fin M) (k : Fin K) (r : Fin R) (h : (idx (ix2 e (0 : Fin 1))).toInt = r.val) :
    Host.gather (GatherDims.mk (s := ⟨2, ![R, K]⟩) (si := ⟨2, ![M, 1]⟩) (t := ⟨2, ![M, K]⟩) [1] [0] [] [] [0] 1 ![1, K] wf) x idx (ix2 e k) = x (ix2 r k) := by
  unfold Host.gather
  refine congrArg x (funext fun a => Fin.ext ?_)
  have hr := r.isLt
  have hs0 : (GatherDims.mk (s := ⟨2, ![R, K]⟩) (si := ⟨2, ![M, 1]⟩) (t := ⟨2, ![M, K]⟩) [1] [0] [] [] [0] 1 ![1, K] wf).start (ix2 e k) idx 0 = r.val := by
    unfold GatherDims.start
    rw [dif_pos (List.mem_singleton.2 rfl)]
    refine (congrArg (fun i => min (idx i).toInt.toNat (R - 1)) (funext fun b => ?_ : _ = ix2 e (0 : Fin 1))).trans ?_
    · match b with
      | ⟨0, _⟩ => rfl
      | ⟨1, _⟩ => rfl
    · show min (idx (ix2 e (0 : Fin 1))).toInt.toNat (R - 1) = r.val
      rw [h]
      omega
  match a with
  | ⟨0, _⟩ => exact hs0
  | ⟨1, _⟩ => exact Nat.zero_add k.val

/-- Matrices read at index words. -/
theorem row3 {R M K L : Nat} (wf : GatherDims.WF ⟨3, ![R, K, L]⟩ ⟨2, ![M, 1]⟩ ⟨3, ![M, K, L]⟩ [1, 2] [0] [] [0] [] 1 ![1, K, L])
    (x : FVec Ideal ⟨3, ![R, K, L]⟩ .f32) (idx : IVec ⟨2, ![M, 1]⟩ 32) (e : Fin M) (k : Fin K) (l : Fin L) (r : Fin R)
    (h : (idx (ix2 e (0 : Fin 1))).toInt = r.val) :
    Host.gather (GatherDims.mk (s := ⟨3, ![R, K, L]⟩) (si := ⟨2, ![M, 1]⟩) (t := ⟨3, ![M, K, L]⟩) [1, 2] [0] [] [] [0] 1 ![1, K, L] wf) x idx (ix3 e k l) = x (ix3 r k l) := by
  unfold Host.gather
  refine congrArg x (funext fun a => Fin.ext ?_)
  have hr := r.isLt
  have hs0 : (GatherDims.mk (s := ⟨3, ![R, K, L]⟩) (si := ⟨2, ![M, 1]⟩) (t := ⟨3, ![M, K, L]⟩) [1, 2] [0] [] [] [0] 1 ![1, K, L] wf).start (ix3 e k l) idx 0 = r.val := by
    unfold GatherDims.start
    rw [dif_pos (List.mem_singleton.2 rfl)]
    refine (congrArg (fun i => min (idx i).toInt.toNat (R - 1)) (funext fun b => ?_ : _ = ix2 e (0 : Fin 1))).trans ?_
    · match b with
      | ⟨0, _⟩ => rfl
      | ⟨1, _⟩ => rfl
    · show min (idx (ix2 e (0 : Fin 1))).toInt.toNat (R - 1) = r.val
      rw [h]
      omega
  match a with
  | ⟨0, _⟩ => exact hs0
  | ⟨1, _⟩ => exact Nat.zero_add k.val
  | ⟨2, _⟩ => exact Nat.zero_add l.val

/-- Columns read at index words. -/
theorem cols {R C M K : Nat} (wf : GatherDims.WF ⟨2, ![R, C]⟩ ⟨3, ![M, K, 1]⟩ ⟨3, ![R, M, K]⟩ [0] [1] [] [1] [] 2 ![R, 1])
    (x : FVec Ideal ⟨2, ![R, C]⟩ .f32) (idx : IVec ⟨3, ![M, K, 1]⟩ 32) (b : Fin R) (i : Fin M) (k : Fin K) (r : Fin C)
    (h : (idx (ix3 i k (0 : Fin 1))).toInt = r.val) :
    Host.gather (GatherDims.mk (s := ⟨2, ![R, C]⟩) (si := ⟨3, ![M, K, 1]⟩) (t := ⟨3, ![R, M, K]⟩) [0] [1] [] [] [1] 2 ![R, 1] wf) x idx (ix3 b i k) = x (ix2 b r) := by
  unfold Host.gather
  refine congrArg x (funext fun a => Fin.ext ?_)
  have hr := r.isLt
  have hs1 : (GatherDims.mk (s := ⟨2, ![R, C]⟩) (si := ⟨3, ![M, K, 1]⟩) (t := ⟨3, ![R, M, K]⟩) [0] [1] [] [] [1] 2 ![R, 1] wf).start (ix3 b i k) idx 1 = r.val := by
    unfold GatherDims.start
    rw [dif_pos (List.mem_singleton.2 rfl)]
    refine (congrArg (fun i => min (idx i).toInt.toNat (C - 1)) (funext fun b => ?_ : _ = ix3 i k (0 : Fin 1))).trans ?_
    · match b with
      | ⟨0, _⟩ => rfl
      | ⟨1, _⟩ => rfl
      | ⟨2, _⟩ => rfl
    · show min (idx (ix3 i k (0 : Fin 1))).toInt.toNat (C - 1) = r.val
      rw [h]
      omega
  match a with
  | ⟨0, _⟩ => exact Nat.zero_add b.val
  | ⟨1, _⟩ => exact hs1

end Cert.Gat

end
-- ==== Proof.RKeys.lean ====
module

public import proofs.«01_k».proof.Proof.Gen.ReferenceIdeal.Read
public import proofs.«01_k».proof.Proof.RFlat
public import proofs.«01_k».proof.Proof.RLib
public import proofs.«01_k».proof.Proof.Model
public import Idealize.ShloMosaic.Lib.Pointwise

@[expose] public section

noncomputable section

/-! # The reference's index words: the ends of the edges of the disjoint union, and the genes -/

namespace Cert.ReferenceIdeal.Read

open Cert.ReferenceIdeal Cert.ReferenceIdeal.Gen Idealize.ShloMosaic Cert.Gat

/-- The graph number of a graph of the disjoint union. -/
def gI (p : Fin 2048) : Fin 8 := ⟨p.val / 256, by have := p.isLt; omega⟩
/-- The batch row of a graph of the disjoint union. -/
def bI (p : Fin 2048) : Fin 256 := ⟨p.val % 256, by omega⟩

section Words

variable (x0 : (⟨S256x5000, .f32⟩ : BufTy).Contents (Elt Ideal)) (x1 : (⟨S8x2x1600, .i32⟩ : BufTy).Contents (Elt Ideal))
  (x2 : (⟨S8x400, .i32⟩ : BufTy).Contents (Elt Ideal))

/-- The graphs of the disjoint union. -/
def gr (p : Fin 2048) : Graph :=
  graphOf (fun b k => x0 (ix2 b k)) (fun g r e => x1 (ix3 g r e)) (fun g n => x2 (ix2 g n)) (bI p) (gI p)

/-- A word holding a node's number, read signed. -/
theorem toInt_node (q : Fin 819200) : (BitVec.ofNat 32 q.val).toInt = q.val := by
  have := q.isLt
  exact StableHlo.Predicate.toInt_ofNat_small _ (by omega)

/-- The wrap of a negative index leaves a node's number alone. -/
theorem wrap_node (w a : BitVec 32) (q : Fin 819200) (h : w = BitVec.ofNat 32 q.val) :
    (Scalar.select (IntOp.cmpi .slt w 0#32) a w).toInt = q.val := by
  have := q.isLt
  rw [Routing.wrap_of_lt _ _ (by rw [h, BitVec.toNat_ofNat, Nat.mod_eq_of_lt (by omega)]; show q.val < 2 ^ 31; omega), h]
  exact toInt_node q

variable {x1} (hlt : ∀ g r e, (x1 (ix3 g r e)).toNat < 400)
include hlt

/-- An edge word plus its graph's offset is the number of the node in the disjoint union. -/
theorem edge_word (r : Fin 2) (p : Fin 2048) (e : Fin 1600) :
    IntOp.addi (x1 (ix3 (gI p) r e)) (IntOp.muli (BitVec.ofNat 32 p.val) 400#32) = BitVec.ofNat 32 (nd p (node (x1 (ix3 (gI p) r e)))).val := by
  have h := hlt (gI p) r e
  generalize x1 (ix3 (gI p) r e) = w at h
  have hp := p.isLt
  rw [← BitVec.toNat_inj]
  show (w + BitVec.ofNat 32 p.val * 400#32).toNat = (BitVec.ofNat 32 (p.val * 400 + w.toNat % 400)).toNat
  rw [BitVec.toNat_add, BitVec.toNat_mul, BitVec.toNat_ofNat, BitVec.toNat_ofNat, BitVec.toNat_ofNat]
  omega

/-- The edges' sources. -/
theorem v19_val (k : Fin 3276800) (p : Fin 2048) (e : Fin 1600) (hk : k.val = p.val * 1600 + e.val) :
    val_main_v19 (F := Ideal) x1 (ix1 k) = BitVec.ofNat 32 (nd p (node (x1 (ix3 (gI p) 0 e)))).val := by
  unfold val_main_v19 val_main_v18 val_main_v16 val_main_v17
  pointwise
  unfold val_main_v15 val_main_v14 val_main_v13 val_main_v3 val_main_v2 val_main_v1 val_main_c val_main_v0
  pointwise
  have hp := p.isLt
  have he := e.isLt
  refine Eq.trans ?_ (edge_word hlt 0 p e)
  have h1 : (⟨k.val / 409600, by omega⟩ : Fin 8) = gI p := Fin.ext (by show k.val / 409600 = p.val / 256; omega)
  have h2 : (⟨k.val % 1600, by omega⟩ : Fin 1600) = e := Fin.ext (by show k.val % 1600 = e.val; omega)
  have h3 : k.val / 409600 * 256 + k.val / 1600 % 256 = p.val := by omega
  rw [h1, h2, h3]

/-- The edges' destinations. -/
theorem v26_val (k : Fin 3276800) (p : Fin 2048) (e : Fin 1600) (hk : k.val = p.val * 1600 + e.val) :
    val_main_v26 (F := Ideal) x1 (ix1 k) = BitVec.ofNat 32 (nd p (node (x1 (ix3 (gI p) 1 e)))).val := by
  unfold val_main_v26 val_main_v25 val_main_v23 val_main_v24
  pointwise
  unfold val_main_v22 val_main_v21 val_main_v20 val_main_v3 val_main_v2 val_main_v1 val_main_c val_main_v0
  pointwise
  have hp := p.isLt
  have he := e.isLt
  refine Eq.trans ?_ (edge_word hlt 1 p e)
  have h1 : (⟨k.val / 409600, by omega⟩ : Fin 8) = gI p := Fin.ext (by show k.val / 409600 = p.val / 256; omega)
  have h2 : (⟨k.val % 1600, by omega⟩ : Fin 1600) = e := Fin.ext (by show k.val % 1600 = e.val; omega)
  have h3 : k.val / 409600 * 256 + k.val / 1600 % 256 = p.val := by omega
  rw [h1, h2, h3]

/-- All edges' sources, the loops last. -/
theorem v28_val (e : Fin 4096000) :
    val_main_v28 (F := Ideal) x1 (ix1 e) = BitVec.ofNat 32 (srcs (gr x0 x1 x2) e).val := by
  unfold val_main_v28
  pointwise
  unfold srcs ends
  by_cases h : e.val < 3276800
  · rw [dif_pos h, dif_pos h]
    exact v19_val hlt _ ⟨e.val / 1600, by omega⟩ ⟨e.val % 1600, by omega⟩ (by show e.val = e.val / 1600 * 1600 + e.val % 1600; omega)
  · rw [dif_neg h, dif_neg h]
    rfl

/-- All edges' destinations, the loops last. -/
theorem v29_val (e : Fin 4096000) :
    val_main_v29 (F := Ideal) x1 (ix1 e) = BitVec.ofNat 32 (dsts (gr x0 x1 x2) e).val := by
  unfold val_main_v29
  pointwise
  unfold dsts ends
  by_cases h : e.val < 3276800
  · rw [dif_pos h, dif_pos h]
    exact v26_val hlt _ ⟨e.val / 1600, by omega⟩ ⟨e.val % 1600, by omega⟩ (by show e.val = e.val / 1600 * 1600 + e.val % 1600; omega)
  · rw [dif_neg h, dif_neg h]
    rfl

/-- All edges' sources once more, for the second layer. -/
theorem v89_val (e : Fin 4096000) :
    val_main_v89 (F := Ideal) x1 (ix1 e) = BitVec.ofNat 32 (srcs (gr x0 x1 x2) e).val := by
  unfold val_main_v89
  pointwise
  unfold srcs ends
  by_cases h : e.val < 3276800
  · rw [dif_pos h, dif_pos h]
    exact v19_val hlt _ ⟨e.val / 1600, by omega⟩ ⟨e.val % 1600, by omega⟩ (by show e.val = e.val / 1600 * 1600 + e.val % 1600; omega)
  · rw [dif_neg h, dif_neg h]
    rfl

/-- All edges' destinations once more, for the second layer. -/
theorem v90_val (e : Fin 4096000) :
    val_main_v90 (F := Ideal) x1 (ix1 e) = BitVec.ofNat 32 (dsts (gr x0 x1 x2) e).val := by
  unfold val_main_v90
  pointwise
  unfold dsts ends
  by_cases h : e.val < 3276800
  · rw [dif_pos h, dif_pos h]
    exact v26_val hlt _ ⟨e.val / 1600, by omega⟩ ⟨e.val % 1600, by omega⟩ (by show e.val = e.val / 1600 * 1600 + e.val % 1600; omega)
  · rw [dif_neg h, dif_neg h]
    rfl

/-! The columns of index words, the wrap of negative words done. -/

/-- The word of every edge's source, where the first layer reads its source scores. -/
theorem v45_val (e : Fin 4096000) : (val_main_v45 (F := Ideal) x1 (ix2 e (0 : Fin 1))).toInt = ((srcs (gr x0 x1 x2) e).val : Int) := by
  unfold val_main_v45 val_main_v44 val_main_v41 val_main_v40 val_main_c_3
  pointwise
  exact wrap_node _ _ _ (v28_val x0 x2 hlt e)

/-- The word of every edge's destination, where the first layer reads its destination scores. -/
theorem v52_val (e : Fin 4096000) : (val_main_v52 (F := Ideal) x1 (ix2 e (0 : Fin 1))).toInt = ((dsts (gr x0 x1 x2) e).val : Int) := by
  unfold val_main_v52 val_main_v51 val_main_v48 val_main_v47 val_main_c_5
  pointwise
  exact wrap_node _ _ _ (v29_val x0 x2 hlt e)

/-- The word of every edge's destination, where the first layer reads its destination's sum. -/
theorem v65_val (e : Fin 4096000) : (val_main_v65 (F := Ideal) x1 (ix2 e (0 : Fin 1))).toInt = ((dsts (gr x0 x1 x2) e).val : Int) := by
  unfold val_main_v65 val_main_v64 val_main_v61 val_main_v60 val_main_c_9
  pointwise
  exact wrap_node _ _ _ (v29_val x0 x2 hlt e)

/-- The word of every edge's source, where the first layer reads its source's features. -/
theorem v75_val (e : Fin 4096000) : (val_main_v75 (F := Ideal) x1 (ix2 e (0 : Fin 1))).toInt = ((srcs (gr x0 x1 x2) e).val : Int) := by
  unfold val_main_v75 val_main_v74 val_main_v71 val_main_v70 val_main_c_12
  pointwise
  exact wrap_node _ _ _ (v28_val x0 x2 hlt e)

/-- The word of every edge's source, where the second layer reads its source scores. -/
theorem v106_val (e : Fin 4096000) : (val_main_v106 (F := Ideal) x1 (ix2 e (0 : Fin 1))).toInt = ((srcs (gr x0 x1 x2) e).val : Int) := by
  unfold val_main_v106 val_main_v105 val_main_v102 val_main_v101 val_main_c_17
  pointwise
  exact wrap_node _ _ _ (v89_val x0 x2 hlt e)

/-- The word of every edge's destination, where the second layer reads its destination scores. -/
theorem v113_val (e : Fin 4096000) : (val_main_v113 (F := Ideal) x1 (ix2 e (0 : Fin 1))).toInt = ((dsts (gr x0 x1 x2) e).val : Int) := by
  unfold val_main_v113 val_main_v112 val_main_v109 val_main_v108 val_main_c_19
  pointwise
  exact wrap_node _ _ _ (v90_val x0 x2 hlt e)

/-- The word of every edge's destination, where the second layer reads its destination's sum. -/
theorem v126_val (e : Fin 4096000) : (val_main_v126 (F := Ideal) x1 (ix2 e (0 : Fin 1))).toInt = ((dsts (gr x0 x1 x2) e).val : Int) := by
  unfold val_main_v126 val_main_v125 val_main_v122 val_main_v121 val_main_c_23
  pointwise
  exact wrap_node _ _ _ (v90_val x0 x2 hlt e)

/-- The word of every edge's source, where the second layer reads its source's features. -/
theorem v136_val (e : Fin 4096000) : (val_main_v136 (F := Ideal) x1 (ix2 e (0 : Fin 1))).toInt = ((srcs (gr x0 x1 x2) e).val : Int) := by
  unfold val_main_v136 val_main_v135 val_main_v132 val_main_v131 val_main_c_26
  pointwise
  exact wrap_node _ _ _ (v89_val x0 x2 hlt e)

/-! The columns of index words of the sums. -/

/-- The word of every edge's destination, where the first layer adds its weight. -/
theorem v58_val (e : Fin 4096000) : (val_main_v58 (F := Ideal) x1 (ix2 e (0 : Fin 1))).toInt = ((dsts (gr x0 x1 x2) e).val : Int) := by
  unfold val_main_v58
  pointwise
  rw [v29_val x0 x2 hlt e]
  exact toInt_node _

/-- The word of every edge's destination, where the first layer adds its weighted features. -/
theorem v81_val (e : Fin 4096000) : (val_main_v81 (F := Ideal) x1 (ix2 e (0 : Fin 1))).toInt = ((dsts (gr x0 x1 x2) e).val : Int) := by
  unfold val_main_v81
  pointwise
  rw [v29_val x0 x2 hlt e]
  exact toInt_node _

/-- The word of every edge's destination, where the second layer adds its weight. -/
theorem v119_val (e : Fin 4096000) : (val_main_v119 (F := Ideal) x1 (ix2 e (0 : Fin 1))).toInt = ((dsts (gr x0 x1 x2) e).val : Int) := by
  unfold val_main_v119
  pointwise
  rw [v90_val x0 x2 hlt e]
  exact toInt_node _

/-- The word of every edge's destination, where the second layer adds its weighted features. -/
theorem v142_val (e : Fin 4096000) : (val_main_v142 (F := Ideal) x1 (ix2 e (0 : Fin 1))).toInt = ((dsts (gr x0 x1 x2) e).val : Int) := by
  unfold val_main_v142
  pointwise
  rw [v90_val x0 x2 hlt e]
  exact toInt_node _

end Words

section Genes

variable (x0 : (⟨S256x5000, .f32⟩ : BufTy).Contents (Elt Ideal)) (x1 : (⟨S8x2x1600, .i32⟩ : BufTy).Contents (Elt Ideal))
  {x2 : (⟨S8x400, .i32⟩ : BufTy).Contents (Elt Ideal)} (hgi : ∀ g n, (x2 (ix2 g n)).toNat < 5000)
include hgi

/-- The column of gene words, the wrap of negative words done. -/
theorem v9_val (g : Fin 8) (n : Fin 400) : (val_main_v9 (F := Ideal) x2 (ix3 g n (0 : Fin 1))).toInt = ((gene (x2 (ix2 g n))).val : Int) := by
  unfold val_main_v9 val_main_v8 val_main_v5 val_main_v4 val_main_c_0
  pointwise
  have h := hgi g n
  rw [Routing.wrap_of_lt _ _ (by show _ < 2 ^ 31; omega), StableHlo.Predicate.toInt_eq_toNat_of_lt (by omega)]
  show _ = (((x2 (ix2 g n)).toNat % 5000 : Nat) : Int)
  rw [Nat.mod_eq_of_lt h]

/-- The expressions the genes name. -/
theorem v10_val (b : Fin 256) (g : Fin 8) (n : Fin 400) :
    val_main_v10 (F := Ideal) x0 x2 (ix3 b g n) = x0 (ix2 b (gene (x2 (ix2 g n)))) :=
  cols _ x0 _ b g n _ (v9_val hgi g n)

/-- Every node's expression. -/
theorem v12_val (p : Fin 2048) (n : Fin 400) : val_main_v12 (F := Ideal) x0 x2 (ix2 (nd p n) (0 : Fin 1)) = (gr x0 x1 x2 p).z n := by
  unfold val_main_v12 val_main_v11
  pointwise
  have hp := p.isLt
  have hn := n.isLt
  have hv : (nd p n).val = p.val * 400 + n.val := rfl
  refine Eq.trans ?_ (v10_val x0 hgi (bI p) (gI p) n)
  have h1 : (⟨(nd p n).val / 400 % 256, by omega⟩ : Fin 256) = bI p := Fin.ext (by show (nd p n).val / 400 % 256 = p.val % 256; omega)
  have h2 : (⟨(nd p n).val / 102400, by omega⟩ : Fin 8) = gI p := Fin.ext (by show (nd p n).val / 102400 = p.val / 256; omega)
  have h3 : (⟨(nd p n).val % 400, by omega⟩ : Fin 400) = n := Fin.ext (by show (nd p n).val % 400 = n.val; omega)
  rw [h1, h2, h3]

end Genes

end Cert.ReferenceIdeal.Read

end
-- ==== Proof.RLayer1.lean ====
module

public import proofs.«01_k».proof.Proof.RKeys

@[expose] public section

noncomputable section

/-! # The reference's first attention layer -/

namespace Cert.ReferenceIdeal.Read

open Cert.ReferenceIdeal Cert.ReferenceIdeal.Gen Idealize.ShloMosaic Cert.Gat

section Layer1

variable (x0 : (⟨S256x5000, .f32⟩ : BufTy).Contents (Elt Ideal)) {x1 : (⟨S8x2x1600, .i32⟩ : BufTy).Contents (Elt Ideal)}
  (x2 : (⟨S8x400, .i32⟩ : BufTy).Contents (Elt Ideal)) (x3 : (⟨S1x32, .f32⟩ : BufTy).Contents (Elt Ideal))
  (x4 x5 : (⟨S4x8, .f32⟩ : BufTy).Contents (Elt Ideal)) (x6 : (⟨S32, .f32⟩ : BufTy).Contents (Elt Ideal))
  (hlt : ∀ g r e, (x1 (ix3 g r e)).toNat < 400)

include hlt

/-- Every edge's source score. -/
theorem v46_val (e : Fin 4096000) (h : Fin 4) :
    val_main_v46 (F := Ideal) x0 x1 x2 x3 x4 (ix2 e h) = val_main_v35 (F := Ideal) x0 x2 x3 x4 (ix2 (srcs (gr x0 x1 x2) e) h) := by
  unfold val_main_v46
  generalize val_main_v35 (F := Ideal) x0 x2 x3 x4 = y
  exact row2 _ _ _ e h _ (v45_val x0 x2 hlt e)

/-- Every edge's destination score. -/
theorem v53_val (e : Fin 4096000) (h : Fin 4) :
    val_main_v53 (F := Ideal) x0 x1 x2 x3 x5 (ix2 e h) = val_main_v39 (F := Ideal) x0 x2 x3 x5 (ix2 (dsts (gr x0 x1 x2) e) h) := by
  unfold val_main_v53
  generalize val_main_v39 (F := Ideal) x0 x2 x3 x5 = y
  exact row2 _ _ _ e h _ (v52_val x0 x2 hlt e)

/-- Every edge's score. -/
theorem v54_val (e : Fin 4096000) (h : Fin 4) :
    val_main_v54 (F := Ideal) x0 x1 x2 x3 x4 x5 (ix2 e h)
      = val_main_v35 (F := Ideal) x0 x2 x3 x4 (ix2 (srcs (gr x0 x1 x2) e) h) + val_main_v39 (F := Ideal) x0 x2 x3 x5 (ix2 (dsts (gr x0 x1 x2) e) h) := by
  rw [val_main_v54_apply, v46_val x0 x2 x3 x4 hlt e h, v53_val x0 x2 x3 x5 hlt e h]
  rfl

/-- Every edge's weight. -/
theorem v56_val (e : Fin 4096000) (h : Fin 4) :
    val_main_v56 (F := Ideal) x0 x1 x2 x3 x4 x5 (ix2 e h)
      = fEx (gr x0 x1 x2) (fun q => val_main_v35 (F := Ideal) x0 x2 x3 x4 (ix2 q h)) (fun q => val_main_v39 (F := Ideal) x0 x2 x3 x5 (ix2 q h)) e := by
  have hv := v54_val x0 x2 x3 x4 x5 hlt e h
  unfold val_main_v56 val_main_v55 val_main_call0_v1 val_main_call0_v4
  generalize val_main_v54 (F := Ideal) x0 x1 x2 x3 x4 x5 = y at hv ⊢
  pointwise
  unfold val_main_call0_v3 val_main_call0_v0 val_main_call0_v2 val_main_call0_cst val_main_cst_7
  pointwise
  rw [hv]
  unfold fEx att lrelu Cert.Gat.slope
  rfl

/-- The sums of the weights into every node. -/
theorem v59_val (q : Fin 819200) (h : Fin 4) :
    val_main_v59 (F := Ideal) x0 x1 x2 x3 x4 x5 (ix2 q h)
      = fDen (gr x0 x1 x2) (fun q => val_main_v35 (F := Ideal) x0 x2 x3 x4 (ix2 q h)) (fun q => val_main_v39 (F := Ideal) x0 x2 x3 x5 (ix2 q h)) q := by
  have hv := fun e => v56_val x0 x2 x3 x4 x5 hlt e h
  have hw := v58_val x0 x2 hlt
  have h0 : val_main_v57 (F := Ideal) (ix2 q h) = 0 := by
    unfold val_main_v57 val_main_cst_8
    pointwise
  unfold val_main_v59
  generalize val_main_v56 (F := Ideal) x0 x1 x2 x3 x4 x5 = y at hv ⊢
  generalize val_main_v57 (F := Ideal) = z at h0 ⊢
  generalize val_main_v58 (F := Ideal) x1 = w at hw ⊢
  refine (add2 _ z w y q h).trans ?_
  rw [h0, zero_add]
  simp only [hw, hv, Nat.cast_inj, ← Fin.ext_iff]
  rfl

/-- Every edge's destination's sum. -/
theorem v66_val (e : Fin 4096000) (h : Fin 4) :
    val_main_v66 (F := Ideal) x0 x1 x2 x3 x4 x5 (ix2 e h) = val_main_v59 (F := Ideal) x0 x1 x2 x3 x4 x5 (ix2 (dsts (gr x0 x1 x2) e) h) := by
  unfold val_main_v66
  generalize val_main_v59 (F := Ideal) x0 x1 x2 x3 x4 x5 = y
  exact row2 _ _ _ e h _ (v65_val x0 x2 hlt e)

/-- Every edge's coefficient. -/
theorem v69_val (e : Fin 4096000) (h : Fin 4) :
    val_main_v69 (F := Ideal) x0 x1 x2 x3 x4 x5 (ix2 e h)
      = Ideal.div
          (fEx (gr x0 x1 x2) (fun q => val_main_v35 (F := Ideal) x0 x2 x3 x4 (ix2 q h)) (fun q => val_main_v39 (F := Ideal) x0 x2 x3 x5 (ix2 q h)) e)
          (fDen (gr x0 x1 x2) (fun q => val_main_v35 (F := Ideal) x0 x2 x3 x4 (ix2 q h)) (fun q => val_main_v39 (F := Ideal) x0 x2 x3 x5 (ix2 q h))
            (dsts (gr x0 x1 x2) e) + eps) := by
  have h0 : val_main_v67 (F := Ideal) (ix2 e h) = eps := by
    unfold val_main_v67 val_main_cst_11 eps
    pointwise
  rw [val_main_v69_apply, val_main_v68_apply, v66_val x0 x2 x3 x4 x5 hlt e h, v59_val x0 x2 x3 x4 x5 hlt, v56_val x0 x2 x3 x4 x5 hlt e h, h0]
  rfl

/-- Every edge's source's features. -/
theorem v76_val (e : Fin 4096000) (h : Fin 4) (j : Fin 8) :
    val_main_v76 (F := Ideal) x0 x1 x2 x3 (ix3 e h j) = val_main_v31 (F := Ideal) x0 x2 x3 (ix3 (srcs (gr x0 x1 x2) e) h j) := by
  unfold val_main_v76
  generalize val_main_v31 (F := Ideal) x0 x2 x3 = y
  exact row3 _ _ _ e h j _ (v75_val x0 x2 hlt e)

/-- Every edge's weighted features. -/
theorem v79_val (e : Fin 4096000) (h : Fin 4) (j : Fin 8) :
    val_main_v79 (F := Ideal) x0 x1 x2 x3 x4 x5 (ix3 e h j)
      = val_main_v31 (F := Ideal) x0 x2 x3 (ix3 (srcs (gr x0 x1 x2) e) h j)
        * Ideal.div
          (fEx (gr x0 x1 x2) (fun q => val_main_v35 (F := Ideal) x0 x2 x3 x4 (ix2 q h)) (fun q => val_main_v39 (F := Ideal) x0 x2 x3 x5 (ix2 q h)) e)
          (fDen (gr x0 x1 x2) (fun q => val_main_v35 (F := Ideal) x0 x2 x3 x4 (ix2 q h)) (fun q => val_main_v39 (F := Ideal) x0 x2 x3 x5 (ix2 q h))
            (dsts (gr x0 x1 x2) e) + eps) := by
  have hv := v69_val x0 x2 x3 x4 x5 hlt e h
  rw [val_main_v79_apply, v76_val x0 x2 x3 hlt e h j, ← hv]
  unfold val_main_v78 val_main_v77
  generalize val_main_v69 (F := Ideal) x0 x1 x2 x3 x4 x5 = y
  pointwise

/-- The sums of the weighted features into every node. -/
theorem v82_val (q : Fin 819200) (h : Fin 4) (j : Fin 8) :
    val_main_v82 (F := Ideal) x0 x1 x2 x3 x4 x5 (ix3 q h j)
      = fOut (gr x0 x1 x2) (fun q => val_main_v35 (F := Ideal) x0 x2 x3 x4 (ix2 q h)) (fun q => val_main_v39 (F := Ideal) x0 x2 x3 x5 (ix2 q h))
          (fun q => val_main_v31 (F := Ideal) x0 x2 x3 (ix3 q h j)) q := by
  have hv := fun e => v79_val x0 x2 x3 x4 x5 hlt e h j
  have hw := v81_val x0 x2 hlt
  have h0 : val_main_v80 (F := Ideal) (ix3 q h j) = 0 := by
    unfold val_main_v80 val_main_cst_14
    pointwise
  unfold val_main_v82
  generalize val_main_v79 (F := Ideal) x0 x1 x2 x3 x4 x5 = y at hv ⊢
  generalize val_main_v80 (F := Ideal) = z at h0 ⊢
  generalize val_main_v81 (F := Ideal) x1 = w at hw ⊢
  refine (add3 _ z w y q h j).trans ?_
  rw [h0, zero_add]
  simp only [hw, hv, Nat.cast_inj, ← Fin.ext_iff]
  rfl

variable {x2} (hgi : ∀ g n, (x2 (ix2 g n)).toNat < 5000) {P : Params} (hw1 : ∀ d, P.w1 d = x3 (ix2 (0 : Fin 1) d))
  (has : ∀ h j, P.as1 h j = x4 (ix2 h j)) (had : ∀ h j, P.ad1 h j = x5 (ix2 h j)) (hb1 : ∀ d, P.b1 d = x6 (ix1 d))
omit hlt
include hgi hw1

/-- Every node's first features. -/
theorem v31_val (p : Fin 2048) (n : Fin 400) (h : Fin 4) (j : Fin 8) :
    val_main_v31 (F := Ideal) x0 x2 x3 (ix3 (nd p n) h j) = rH (gr x0 x1 x2 p) P n (chan h j) := by
  have hz := v12_val x0 x1 hgi p n
  unfold val_main_v31 val_main_v30
  generalize val_main_v12 (F := Ideal) x0 x2 = y at hz ⊢
  pointwise [dot_S819200x1_S1x32_S819200x32_1_0_0_1_n_n]
  unfold rH
  rw [hw1, Fin.sum_univ_one, hz]
  exact congrArg (fun c => (gr x0 x1 x2 p).z n * x3 (ix2 (0 : Fin 1) c)) (Fin.ext (show h.val * 8 + j.val = 8 * h.val + j.val by omega))

include has in
/-- Every node's scores as a source. -/
theorem v35_val (p : Fin 2048) (n : Fin 400) (h : Fin 4) :
    val_main_v35 (F := Ideal) x0 x2 x3 x4 (ix2 (nd p n) h) = rA (gr x0 x1 x2 p) P P.as1 n h := by
  have hz := v31_val (x1 := x1) x0 x3 hgi hw1 p n h
  unfold val_main_v35 val_main_v34 val_main_v33 val_main_v32 val_main_cst
  generalize val_main_v31 (F := Ideal) x0 x2 x3 = y at hz ⊢
  pointwise
  unfold rA
  simp only [hz, has]

include had in
/-- Every node's scores as a destination. -/
theorem v39_val (p : Fin 2048) (n : Fin 400) (h : Fin 4) :
    val_main_v39 (F := Ideal) x0 x2 x3 x5 (ix2 (nd p n) h) = rA (gr x0 x1 x2 p) P P.ad1 n h := by
  have hz := v31_val (x1 := x1) x0 x3 hgi hw1 p n h
  unfold val_main_v39 val_main_v38 val_main_v37 val_main_v36 val_main_cst_2
  generalize val_main_v31 (F := Ideal) x0 x2 x3 = y at hz ⊢
  pointwise
  unfold rA
  simp only [hz, had]

end Layer1

end Cert.ReferenceIdeal.Read

end
-- ==== Proof.RLayer1b.lean ====
module

public import proofs.«01_k».proof.Proof.RLayer1

@[expose] public section

noncomputable section

/-! # The reference's first layer, graph by graph -/

namespace Cert.ReferenceIdeal.Read

open Cert.ReferenceIdeal Cert.ReferenceIdeal.Gen Idealize.ShloMosaic Cert.Gat

/-- The first layer's bias on every node. -/
theorem v85_val (x6 : (⟨S32, .f32⟩ : BufTy).Contents (Elt Ideal)) (q : Fin 819200) (c : Fin 32) :
    val_main_v85 (F := Ideal) x6 (ix2 q c) = x6 (ix1 c) := by
  unfold val_main_v85 val_main_v84
  pointwise

/-- The first rectifier's zeros. -/
theorem relu1_val (q : Fin 819200) (c : Fin 32) : val_main_call1_v0 (F := Ideal) (ix2 q c) = 0 := by
  unfold val_main_call1_v0 val_main_call1_cst
  pointwise

/-- The heads' channels side by side. -/
theorem merge (y : (⟨S819200x4x8, .f32⟩ : BufTy).Contents (Elt Ideal)) (q : Fin 819200) (c : Fin 32) (h : Fin 4) (j : Fin 8)
    (hc : 8 * h.val + j.val = c.val) :
    (shapeCast S819200x32 y shapeCasts_S819200x4x8_S819200x32 : (⟨S819200x32, .f32⟩ : BufTy).Contents (Elt Ideal)) (ix2 q c) = y (ix3 q h j) :=
  shapeCast_apply y shapeCasts_S819200x4x8_S819200x32 (ix2 q c) (ix3 q h j)
    (by rewrite [Shape.rowMajor_val_three, Shape.rowMajor_val_two]; show (q.val * 4 + h.val) * 8 + j.val = q.val * 32 + c.val; omega)

section Layer1

variable (x0 : (⟨S256x5000, .f32⟩ : BufTy).Contents (Elt Ideal)) {x1 : (⟨S8x2x1600, .i32⟩ : BufTy).Contents (Elt Ideal)}
  {x2 : (⟨S8x400, .i32⟩ : BufTy).Contents (Elt Ideal)} (x3 : (⟨S1x32, .f32⟩ : BufTy).Contents (Elt Ideal))
  (x4 x5 : (⟨S4x8, .f32⟩ : BufTy).Contents (Elt Ideal)) (x6 : (⟨S32, .f32⟩ : BufTy).Contents (Elt Ideal))
  (hlt : ∀ g r e, (x1 (ix3 g r e)).toNat < 400)
  (hgi : ∀ g n, (x2 (ix2 g n)).toNat < 5000) {P : Params} (hw1 : ∀ d, P.w1 d = x3 (ix2 (0 : Fin 1) d))
  (has : ∀ h j, P.as1 h j = x4 (ix2 h j)) (had : ∀ h j, P.ad1 h j = x5 (ix2 h j)) (hb1 : ∀ d, P.b1 d = x6 (ix1 d))

include hgi hw1 hlt has had in
/-- The sums of the weighted features into every node, graph by graph. -/
theorem v82_nd (p : Fin 2048) (n : Fin 400) (h : Fin 4) (j : Fin 8) :
    val_main_v82 (F := Ideal) x0 x1 x2 x3 x4 x5 (ix3 (nd p n) h j)
      = gatOut (gr x0 x1 x2 p) (rE (gr x0 x1 x2 p) P h) (fun i => rH (gr x0 x1 x2 p) P i (chan h j)) n := by
  have ha : (fun i => val_main_v35 (F := Ideal) x0 x2 x3 x4 (ix2 (nd p i) h)) = fun i => rA (gr x0 x1 x2 p) P P.as1 i h :=
    funext fun i => v35_val x0 x3 x4 hgi hw1 has p i h
  have hd : (fun i => val_main_v39 (F := Ideal) x0 x2 x3 x5 (ix2 (nd p i) h)) = fun i => rA (gr x0 x1 x2 p) P P.ad1 i h :=
    funext fun i => v39_val x0 x3 x5 hgi hw1 had p i h
  have hx : (fun i => val_main_v31 (F := Ideal) x0 x2 x3 (ix3 (nd p i) h j)) = fun i => rH (gr x0 x1 x2 p) P i (chan h j) :=
    funext fun i => v31_val x0 x3 hgi hw1 p i h j
  rw [v82_val x0 x2 x3 x4 x5 hlt (nd p n) h j]
  generalize val_main_v35 (F := Ideal) x0 x2 x3 x4 = a at ha ⊢
  generalize val_main_v39 (F := Ideal) x0 x2 x3 x5 = d at hd ⊢
  generalize val_main_v31 (F := Ideal) x0 x2 x3 = x at hx ⊢
  rw [fOut_nd, hx]
  have he : (fun i j => att (a (ix2 (nd p i) h) + d (ix2 (nd p j) h))) = rE (gr x0 x1 x2 p) P h :=
    funext fun i => funext fun j => congrArg att (congrArg₂ (fun x y : EReal => x + y) (congrFun ha i) (congrFun hd j))
  rw [he]

include hgi hw1 hlt has had hb1 in
/-- The first layer's output. -/
theorem v87_val (p : Fin 2048) (n : Fin 400) (c : Fin 32) :
    val_main_v87 (F := Ideal) x0 x1 x2 x3 x4 x5 x6 (ix2 (nd p n) c) = rH1 (gr x0 x1 x2 p) P n c := by
  have hv := v82_nd x0 x3 x4 x5 hlt hgi hw1 has had p n ⟨c.val / 8, by omega⟩ ⟨c.val % 8, by omega⟩
  have hc : chan ⟨c.val / 8, by omega⟩ ⟨c.val % 8, by omega⟩ = c := Fin.ext (show 8 * (c.val / 8) + c.val % 8 = c.val by omega)
  rw [hc] at hv
  have hm : val_main_v83 (F := Ideal) x0 x1 x2 x3 x4 x5 (ix2 (nd p n) c)
      = val_main_v82 (F := Ideal) x0 x1 x2 x3 x4 x5 (ix3 (nd p n) ⟨c.val / 8, by omega⟩ ⟨c.val % 8, by omega⟩) := by
    unfold val_main_v83
    exact merge _ (nd p n) c _ _ (show 8 * (c.val / 8) + c.val % 8 = c.val by omega)
  rw [val_main_v87_apply, val_main_v86_apply, v85_val, relu1_val, hm, hv, ← hb1]
  unfold rH1 headOf
  generalize gatOut (gr x0 x1 x2 p) _ _ n = y
  generalize P.b1 c = z
  rfl

end Layer1

end Cert.ReferenceIdeal.Read

end
-- ==== Proof.RLayer2.lean ====
module

public import proofs.«01_k».proof.Proof.RKeys

@[expose] public section

noncomputable section

/-! # The reference's second attention layer -/

namespace Cert.ReferenceIdeal.Read

open Cert.ReferenceIdeal Cert.ReferenceIdeal.Gen Idealize.ShloMosaic Cert.Gat

section Layer2

variable (x0 : (⟨S256x5000, .f32⟩ : BufTy).Contents (Elt Ideal)) {x1 : (⟨S8x2x1600, .i32⟩ : BufTy).Contents (Elt Ideal)}
  (x2 : (⟨S8x400, .i32⟩ : BufTy).Contents (Elt Ideal)) (x3 : (⟨S1x32, .f32⟩ : BufTy).Contents (Elt Ideal))
  (x4 x5 : (⟨S4x8, .f32⟩ : BufTy).Contents (Elt Ideal)) (x6 : (⟨S32, .f32⟩ : BufTy).Contents (Elt Ideal))
  (x7 : (⟨S32x32, .f32⟩ : BufTy).Contents (Elt Ideal)) (x8 x9 : (⟨S1x32, .f32⟩ : BufTy).Contents (Elt Ideal))
  (x10 : (⟨S32, .f32⟩ : BufTy).Contents (Elt Ideal))
  (hlt : ∀ g r e, (x1 (ix3 g r e)).toNat < 400)

include hlt

/-- Every edge's source score. -/
theorem v107_val (e : Fin 4096000) :
    val_main_v107 (F := Ideal) x0 x1 x2 x3 x4 x5 x6 x7 x8 (ix2 e (0 : Fin 1)) = val_main_v96 (F := Ideal) x0 x1 x2 x3 x4 x5 x6 x7 x8 (ix2 (srcs (gr x0 x1 x2) e) (0 : Fin 1)) := by
  unfold val_main_v107
  generalize val_main_v96 (F := Ideal) x0 x1 x2 x3 x4 x5 x6 x7 x8 = y
  exact row2 _ _ _ e (0 : Fin 1) _ (v106_val x0 x2 hlt e)

/-- Every edge's destination score. -/
theorem v114_val (e : Fin 4096000) :
    val_main_v114 (F := Ideal) x0 x1 x2 x3 x4 x5 x6 x7 x9 (ix2 e (0 : Fin 1)) = val_main_v100 (F := Ideal) x0 x1 x2 x3 x4 x5 x6 x7 x9 (ix2 (dsts (gr x0 x1 x2) e) (0 : Fin 1)) := by
  unfold val_main_v114
  generalize val_main_v100 (F := Ideal) x0 x1 x2 x3 x4 x5 x6 x7 x9 = y
  exact row2 _ _ _ e (0 : Fin 1) _ (v113_val x0 x2 hlt e)

/-- Every edge's score. -/
theorem v115_val (e : Fin 4096000) :
    val_main_v115 (F := Ideal) x0 x1 x2 x3 x4 x5 x6 x7 x8 x9 (ix2 e (0 : Fin 1))
      = val_main_v96 (F := Ideal) x0 x1 x2 x3 x4 x5 x6 x7 x8 (ix2 (srcs (gr x0 x1 x2) e) (0 : Fin 1)) + val_main_v100 (F := Ideal) x0 x1 x2 x3 x4 x5 x6 x7 x9 (ix2 (dsts (gr x0 x1 x2) e) (0 : Fin 1)) := by
  rw [val_main_v115_apply, v107_val x0 x2 x3 x4 x5 x6 x7 x8 hlt e, v114_val x0 x2 x3 x4 x5 x6 x7 x9 hlt e]
  rfl

/-- Every edge's weight. -/
theorem v117_val (e : Fin 4096000) :
    val_main_v117 (F := Ideal) x0 x1 x2 x3 x4 x5 x6 x7 x8 x9 (ix2 e (0 : Fin 1))
      = fEx (gr x0 x1 x2) (fun q => val_main_v96 (F := Ideal) x0 x1 x2 x3 x4 x5 x6 x7 x8 (ix2 q (0 : Fin 1)))
          (fun q => val_main_v100 (F := Ideal) x0 x1 x2 x3 x4 x5 x6 x7 x9 (ix2 q (0 : Fin 1))) e := by
  have hv := v115_val x0 x2 x3 x4 x5 x6 x7 x8 x9 hlt e
  unfold val_main_v117 val_main_v116 val_main_call2_v1 val_main_call2_v4
  generalize val_main_v115 (F := Ideal) x0 x1 x2 x3 x4 x5 x6 x7 x8 x9 = y at hv ⊢
  pointwise
  unfold val_main_call2_v3 val_main_call2_v0 val_main_call2_v2 val_main_call2_cst val_main_cst_21
  pointwise
  rw [hv]
  unfold fEx att lrelu Cert.Gat.slope
  rfl

/-- The sums of the weights into every node. -/
theorem v120_val (q : Fin 819200) :
    val_main_v120 (F := Ideal) x0 x1 x2 x3 x4 x5 x6 x7 x8 x9 (ix2 q (0 : Fin 1))
      = fDen (gr x0 x1 x2) (fun q => val_main_v96 (F := Ideal) x0 x1 x2 x3 x4 x5 x6 x7 x8 (ix2 q (0 : Fin 1)))
          (fun q => val_main_v100 (F := Ideal) x0 x1 x2 x3 x4 x5 x6 x7 x9 (ix2 q (0 : Fin 1))) q := by
  have hv := fun e => v117_val x0 x2 x3 x4 x5 x6 x7 x8 x9 hlt e
  have hw := v119_val x0 x2 hlt
  have h0 : val_main_v118 (F := Ideal) (ix2 q (0 : Fin 1)) = 0 := by
    unfold val_main_v118 val_main_cst_22
    pointwise
  unfold val_main_v120
  generalize val_main_v117 (F := Ideal) x0 x1 x2 x3 x4 x5 x6 x7 x8 x9 = y at hv ⊢
  generalize val_main_v118 (F := Ideal) = z at h0 ⊢
  generalize val_main_v119 (F := Ideal) x1 = w at hw ⊢
  refine (add2 _ z w y q (0 : Fin 1)).trans ?_
  rw [h0, zero_add]
  simp only [hw, hv, Nat.cast_inj, ← Fin.ext_iff]
  rfl

/-- Every edge's destination's sum. -/
theorem v127_val (e : Fin 4096000) :
    val_main_v127 (F := Ideal) x0 x1 x2 x3 x4 x5 x6 x7 x8 x9 (ix2 e (0 : Fin 1)) = val_main_v120 (F := Ideal) x0 x1 x2 x3 x4 x5 x6 x7 x8 x9 (ix2 (dsts (gr x0 x1 x2) e) (0 : Fin 1)) := by
  unfold val_main_v127
  generalize val_main_v120 (F := Ideal) x0 x1 x2 x3 x4 x5 x6 x7 x8 x9 = y
  exact row2 _ _ _ e (0 : Fin 1) _ (v126_val x0 x2 hlt e)

/-- Every edge's coefficient. -/
theorem v130_val (e : Fin 4096000) :
    val_main_v130 (F := Ideal) x0 x1 x2 x3 x4 x5 x6 x7 x8 x9 (ix2 e (0 : Fin 1))
      = Ideal.div
          (fEx (gr x0 x1 x2) (fun q => val_main_v96 (F := Ideal) x0 x1 x2 x3 x4 x5 x6 x7 x8 (ix2 q (0 : Fin 1)))
            (fun q => val_main_v100 (F := Ideal) x0 x1 x2 x3 x4 x5 x6 x7 x9 (ix2 q (0 : Fin 1))) e)
          (fDen (gr x0 x1 x2) (fun q => val_main_v96 (F := Ideal) x0 x1 x2 x3 x4 x5 x6 x7 x8 (ix2 q (0 : Fin 1)))
            (fun q => val_main_v100 (F := Ideal) x0 x1 x2 x3 x4 x5 x6 x7 x9 (ix2 q (0 : Fin 1)))
            (dsts (gr x0 x1 x2) e) + eps) := by
  have h0 : val_main_v128 (F := Ideal) (ix2 e (0 : Fin 1)) = eps := by
    unfold val_main_v128 val_main_cst_25 eps
    pointwise
  rw [val_main_v130_apply, val_main_v129_apply, v127_val x0 x2 x3 x4 x5 x6 x7 x8 x9 hlt e, v120_val x0 x2 x3 x4 x5 x6 x7 x8 x9 hlt,
    v117_val x0 x2 x3 x4 x5 x6 x7 x8 x9 hlt e, h0]
  rfl

/-- Every edge's source's features. -/
theorem v137_val (e : Fin 4096000) (d : Fin 32) :
    val_main_v137 (F := Ideal) x0 x1 x2 x3 x4 x5 x6 x7 (ix3 e (0 : Fin 1) d) = val_main_v92 (F := Ideal) x0 x1 x2 x3 x4 x5 x6 x7 (ix3 (srcs (gr x0 x1 x2) e) (0 : Fin 1) d) := by
  unfold val_main_v137
  generalize val_main_v92 (F := Ideal) x0 x1 x2 x3 x4 x5 x6 x7 = y
  exact row3 _ _ _ e (0 : Fin 1) d _ (v136_val x0 x2 hlt e)

/-- Every edge's weighted features. -/
theorem v140_val (e : Fin 4096000) (d : Fin 32) :
    val_main_v140 (F := Ideal) x0 x1 x2 x3 x4 x5 x6 x7 x8 x9 (ix3 e (0 : Fin 1) d)
      = val_main_v92 (F := Ideal) x0 x1 x2 x3 x4 x5 x6 x7 (ix3 (srcs (gr x0 x1 x2) e) (0 : Fin 1) d)
        * Ideal.div
          (fEx (gr x0 x1 x2) (fun q => val_main_v96 (F := Ideal) x0 x1 x2 x3 x4 x5 x6 x7 x8 (ix2 q (0 : Fin 1)))
            (fun q => val_main_v100 (F := Ideal) x0 x1 x2 x3 x4 x5 x6 x7 x9 (ix2 q (0 : Fin 1))) e)
          (fDen (gr x0 x1 x2) (fun q => val_main_v96 (F := Ideal) x0 x1 x2 x3 x4 x5 x6 x7 x8 (ix2 q (0 : Fin 1)))
            (fun q => val_main_v100 (F := Ideal) x0 x1 x2 x3 x4 x5 x6 x7 x9 (ix2 q (0 : Fin 1)))
            (dsts (gr x0 x1 x2) e) + eps) := by
  have hv := v130_val x0 x2 x3 x4 x5 x6 x7 x8 x9 hlt e
  rw [val_main_v140_apply, v137_val x0 x2 x3 x4 x5 x6 x7 hlt e d, ← hv]
  unfold val_main_v139 val_main_v138
  generalize val_main_v130 (F := Ideal) x0 x1 x2 x3 x4 x5 x6 x7 x8 x9 = y
  pointwise

/-- The sums of the weighted features into every node. -/
theorem v143_val (q : Fin 819200) (d : Fin 32) :
    val_main_v143 (F := Ideal) x0 x1 x2 x3 x4 x5 x6 x7 x8 x9 (ix3 q (0 : Fin 1) d)
      = fOut (gr x0 x1 x2) (fun q => val_main_v96 (F := Ideal) x0 x1 x2 x3 x4 x5 x6 x7 x8 (ix2 q (0 : Fin 1)))
          (fun q => val_main_v100 (F := Ideal) x0 x1 x2 x3 x4 x5 x6 x7 x9 (ix2 q (0 : Fin 1)))
          (fun q => val_main_v92 (F := Ideal) x0 x1 x2 x3 x4 x5 x6 x7 (ix3 q (0 : Fin 1) d)) q := by
  have hv := fun e => v140_val x0 x2 x3 x4 x5 x6 x7 x8 x9 hlt e d
  have hw := v142_val x0 x2 hlt
  have h0 : val_main_v141 (F := Ideal) (ix3 q (0 : Fin 1) d) = 0 := by
    unfold val_main_v141 val_main_cst_28
    pointwise
  unfold val_main_v143
  generalize val_main_v140 (F := Ideal) x0 x1 x2 x3 x4 x5 x6 x7 x8 x9 = y at hv ⊢
  generalize val_main_v141 (F := Ideal) = z at h0 ⊢
  generalize val_main_v142 (F := Ideal) x1 = w at hw ⊢
  refine (add3 _ z w y q (0 : Fin 1) d).trans ?_
  rw [h0, zero_add]
  simp only [hw, hv, Nat.cast_inj, ← Fin.ext_iff]
  rfl

end Layer2

end Cert.ReferenceIdeal.Read

end
-- ==== Proof.RLayer2b.lean ====
module

public import proofs.«01_k».proof.Proof.RLayer1b
public import proofs.«01_k».proof.Proof.RLayer2

@[expose] public section

noncomputable section

/-! # The reference's second layer, graph by graph -/

namespace Cert.ReferenceIdeal.Read

open Cert.ReferenceIdeal Cert.ReferenceIdeal.Gen Idealize.ShloMosaic Cert.Gat

/-- The second layer's bias on every node. -/
theorem v146_val (x10 : (⟨S32, .f32⟩ : BufTy).Contents (Elt Ideal)) (q : Fin 819200) (d : Fin 32) :
    val_main_v146 (F := Ideal) x10 (ix2 q d) = x10 (ix1 d) := by
  unfold val_main_v146 val_main_v145
  pointwise

/-- The second rectifier's zeros. -/
theorem relu2_val (q : Fin 819200) (d : Fin 32) : val_main_call3_v0 (F := Ideal) (ix2 q d) = 0 := by
  unfold val_main_call3_v0 val_main_call3_cst
  pointwise

/-- One head beside nothing. -/
theorem split2 (y : (⟨S819200x32, .f32⟩ : BufTy).Contents (Elt Ideal)) (q : Fin 819200) (d : Fin 32) :
    (shapeCast S819200x1x32 y shapeCasts_S819200x32_S819200x1x32 : (⟨S819200x1x32, .f32⟩ : BufTy).Contents (Elt Ideal)) (ix3 q (0 : Fin 1) d) = y (ix2 q d) :=
  shapeCast_apply y shapeCasts_S819200x32_S819200x1x32 (ix3 q (0 : Fin 1) d) (ix2 q d)
    (by rewrite [Shape.rowMajor_val_three, Shape.rowMajor_val_two]; show q.val * 32 + d.val = (q.val * 1 + 0) * 32 + d.val; omega)

/-- The one head's channels. -/
theorem merge2 (y : (⟨S819200x1x32, .f32⟩ : BufTy).Contents (Elt Ideal)) (q : Fin 819200) (d : Fin 32) :
    (shapeCast S819200x32 y shapeCasts_S819200x1x32_S819200x32 : (⟨S819200x32, .f32⟩ : BufTy).Contents (Elt Ideal)) (ix2 q d) = y (ix3 q (0 : Fin 1) d) :=
  shapeCast_apply y shapeCasts_S819200x1x32_S819200x32 (ix2 q d) (ix3 q (0 : Fin 1) d)
    (by rewrite [Shape.rowMajor_val_three, Shape.rowMajor_val_two]; show (q.val * 1 + 0) * 32 + d.val = q.val * 32 + d.val; omega)

/-- The second layer's source vector on every node. -/
theorem v94_val (x8 : (⟨S1x32, .f32⟩ : BufTy).Contents (Elt Ideal)) (q : Fin 819200) (d : Fin 32) :
    val_main_v94 (F := Ideal) x8 (ix3 q (0 : Fin 1) d) = x8 (ix2 (0 : Fin 1) d) := by
  unfold val_main_v94 val_main_v93
  pointwise

/-- The second layer's destination vector on every node. -/
theorem v98_val (x9 : (⟨S1x32, .f32⟩ : BufTy).Contents (Elt Ideal)) (q : Fin 819200) (d : Fin 32) :
    val_main_v98 (F := Ideal) x9 (ix3 q (0 : Fin 1) d) = x9 (ix2 (0 : Fin 1) d) := by
  unfold val_main_v98 val_main_v97
  pointwise

/-- The first sum's start. -/
theorem cst15_val (i : S_.Idx) : val_main_cst_15 (F := Ideal) i = 0 := by
  unfold val_main_cst_15
  pointwise

/-- The second sum's start. -/
theorem cst16_val (i : S_.Idx) : val_main_cst_16 (F := Ideal) i = 0 := by
  unfold val_main_cst_16
  pointwise

/-- The places a node's first sum reads. -/
theorem idx96 (q : Fin 819200) (k : Fin 32) : idx_main_v96 (ix2 q (0 : Fin 1)) k = ix3 q (0 : Fin 1) k := by
  funext a
  match a with
  | ⟨0, _⟩ => rfl
  | ⟨1, _⟩ => rfl
  | ⟨2, _⟩ => rfl

/-- The places a node's second sum reads. -/
theorem idx100 (q : Fin 819200) (k : Fin 32) : idx_main_v100 (ix2 q (0 : Fin 1)) k = ix3 q (0 : Fin 1) k := by
  funext a
  match a with
  | ⟨0, _⟩ => rfl
  | ⟨1, _⟩ => rfl
  | ⟨2, _⟩ => rfl

section Layer2

variable (x0 : (⟨S256x5000, .f32⟩ : BufTy).Contents (Elt Ideal)) {x1 : (⟨S8x2x1600, .i32⟩ : BufTy).Contents (Elt Ideal)}
  {x2 : (⟨S8x400, .i32⟩ : BufTy).Contents (Elt Ideal)} (x3 : (⟨S1x32, .f32⟩ : BufTy).Contents (Elt Ideal))
  (x4 x5 : (⟨S4x8, .f32⟩ : BufTy).Contents (Elt Ideal)) (x6 : (⟨S32, .f32⟩ : BufTy).Contents (Elt Ideal))
  (x7 : (⟨S32x32, .f32⟩ : BufTy).Contents (Elt Ideal)) (x8 x9 : (⟨S1x32, .f32⟩ : BufTy).Contents (Elt Ideal))
  (x10 : (⟨S32, .f32⟩ : BufTy).Contents (Elt Ideal))
  (hlt : ∀ g r e, (x1 (ix3 g r e)).toNat < 400)
  (hgi : ∀ g n, (x2 (ix2 g n)).toNat < 5000) {P : Params} (hw1 : ∀ d, P.w1 d = x3 (ix2 (0 : Fin 1) d))
  (has : ∀ h j, P.as1 h j = x4 (ix2 h j)) (had : ∀ h j, P.ad1 h j = x5 (ix2 h j)) (hb1 : ∀ d, P.b1 d = x6 (ix1 d))
  (hw2 : ∀ k d, P.w2 k d = x7 (ix2 k d)) (has2 : ∀ d, P.as2 d = x8 (ix2 (0 : Fin 1) d)) (had2 : ∀ d, P.ad2 d = x9 (ix2 (0 : Fin 1) d))
  (hb2 : ∀ d, P.b2 d = x10 (ix1 d))

include hlt hgi hw1 has had hb1 hw2

/-- Every node's second features. -/
theorem v91_val (p : Fin 2048) (n : Fin 400) (d : Fin 32) :
    val_main_v91 (F := Ideal) x0 x1 x2 x3 x4 x5 x6 x7 (ix2 (nd p n) d) = rH2 (gr x0 x1 x2 p) P n d := by
  have hv := v87_val x0 x3 x4 x5 x6 hlt hgi hw1 has had hb1 p n
  unfold val_main_v91
  generalize val_main_v87 (F := Ideal) x0 x1 x2 x3 x4 x5 x6 = y at hv ⊢
  generalize nd p n = q at hv ⊢
  pointwise [dot_S819200x32_S32x32_S819200x32_1_0_0_1_n_n]
  unfold rH2
  simp only [hv, hw2]

/-- Every node's second features, as one head. -/
theorem v92_val (p : Fin 2048) (n : Fin 400) (d : Fin 32) :
    val_main_v92 (F := Ideal) x0 x1 x2 x3 x4 x5 x6 x7 (ix3 (nd p n) (0 : Fin 1) d) = rH2 (gr x0 x1 x2 p) P n d := by
  unfold val_main_v92
  exact (split2 _ (nd p n) d).trans (v91_val x0 x3 x4 x5 x6 x7 hlt hgi hw1 has had hb1 hw2 p n d)

include has2 in
/-- Every node's scores as a source. -/
theorem v96_val (p : Fin 2048) (n : Fin 400) :
    val_main_v96 (F := Ideal) x0 x1 x2 x3 x4 x5 x6 x7 x8 (ix2 (nd p n) (0 : Fin 1)) = rA2 (gr x0 x1 x2 p) P P.as2 n := by
  have hz := v92_val x0 x3 x4 x5 x6 x7 hlt hgi hw1 has had hb1 hw2 p n
  have ht : ∀ k, val_main_v95 (F := Ideal) x0 x1 x2 x3 x4 x5 x6 x7 x8 (ix3 (nd p n) (0 : Fin 1) k) = rH2 (gr x0 x1 x2 p) P n k * P.as2 k := fun k => by
    rw [val_main_v95_apply, hz k, v94_val, has2]
    rfl
  rw [val_main_v96_apply, cst15_val, zero_add]
  unfold rA2
  exact Finset.sum_congr rfl fun k _ => (congrArg _ (idx96 (nd p n) k)).trans (ht k)

include had2 in
/-- Every node's scores as a destination. -/
theorem v100_val (p : Fin 2048) (n : Fin 400) :
    val_main_v100 (F := Ideal) x0 x1 x2 x3 x4 x5 x6 x7 x9 (ix2 (nd p n) (0 : Fin 1)) = rA2 (gr x0 x1 x2 p) P P.ad2 n := by
  have hz := v92_val x0 x3 x4 x5 x6 x7 hlt hgi hw1 has had hb1 hw2 p n
  have ht : ∀ k, val_main_v99 (F := Ideal) x0 x1 x2 x3 x4 x5 x6 x7 x9 (ix3 (nd p n) (0 : Fin 1) k) = rH2 (gr x0 x1 x2 p) P n k * P.ad2 k := fun k => by
    rw [val_main_v99_apply, hz k, v98_val, had2]
    rfl
  rw [val_main_v100_apply, cst16_val, zero_add]
  unfold rA2
  exact Finset.sum_congr rfl fun k _ => (congrArg _ (idx100 (nd p n) k)).trans (ht k)

include has2 had2

/-- The sums of the weighted features into every node, graph by graph. -/
theorem v143_nd (p : Fin 2048) (n : Fin 400) (d : Fin 32) :
    val_main_v143 (F := Ideal) x0 x1 x2 x3 x4 x5 x6 x7 x8 x9 (ix3 (nd p n) (0 : Fin 1) d)
      = gatOut (gr x0 x1 x2 p) (rE2 (gr x0 x1 x2 p) P) (fun i => rH2 (gr x0 x1 x2 p) P i d) n := by
  have ha : (fun i => val_main_v96 (F := Ideal) x0 x1 x2 x3 x4 x5 x6 x7 x8 (ix2 (nd p i) (0 : Fin 1))) = fun i => rA2 (gr x0 x1 x2 p) P P.as2 i :=
    funext fun i => v96_val x0 x3 x4 x5 x6 x7 x8 hlt hgi hw1 has had hb1 hw2 has2 p i
  have hd : (fun i => val_main_v100 (F := Ideal) x0 x1 x2 x3 x4 x5 x6 x7 x9 (ix2 (nd p i) (0 : Fin 1))) = fun i => rA2 (gr x0 x1 x2 p) P P.ad2 i :=
    funext fun i => v100_val x0 x3 x4 x5 x6 x7 x9 hlt hgi hw1 has had hb1 hw2 had2 p i
  have hx : (fun i => val_main_v92 (F := Ideal) x0 x1 x2 x3 x4 x5 x6 x7 (ix3 (nd p i) (0 : Fin 1) d)) = fun i => rH2 (gr x0 x1 x2 p) P i d :=
    funext fun i => v92_val x0 x3 x4 x5 x6 x7 hlt hgi hw1 has had hb1 hw2 p i d
  rw [v143_val x0 x2 x3 x4 x5 x6 x7 x8 x9 hlt (nd p n) d]
  generalize val_main_v96 (F := Ideal) x0 x1 x2 x3 x4 x5 x6 x7 x8 = a at ha ⊢
  generalize val_main_v100 (F := Ideal) x0 x1 x2 x3 x4 x5 x6 x7 x9 = b at hd ⊢
  generalize val_main_v92 (F := Ideal) x0 x1 x2 x3 x4 x5 x6 x7 = x at hx ⊢
  rw [fOut_nd, hx]
  have he : (fun i j => att (a (ix2 (nd p i) (0 : Fin 1)) + b (ix2 (nd p j) (0 : Fin 1)))) = rE2 (gr x0 x1 x2 p) P :=
    funext fun i => funext fun j => congrArg att (congrArg₂ (fun x y : EReal => x + y) (congrFun ha i) (congrFun hd j))
  rw [he]

include hb2

/-- The second layer's output. -/
theorem v148_val (p : Fin 2048) (n : Fin 400) (d : Fin 32) :
    val_main_v148 (F := Ideal) x0 x1 x2 x3 x4 x5 x6 x7 x8 x9 x10 (ix2 (nd p n) d) = rRes (gr x0 x1 x2 p) P d n := by
  have hv := v143_nd x0 x3 x4 x5 x6 x7 x8 x9 hlt hgi hw1 has had hb1 hw2 has2 had2 p n d
  have hm : val_main_v144 (F := Ideal) x0 x1 x2 x3 x4 x5 x6 x7 x8 x9 (ix2 (nd p n) d) = val_main_v143 (F := Ideal) x0 x1 x2 x3 x4 x5 x6 x7 x8 x9 (ix3 (nd p n) (0 : Fin 1) d) := by
    unfold val_main_v144
    exact merge2 _ (nd p n) d
  rw [val_main_v148_apply, val_main_v147_apply, v146_val, relu2_val, hm, hv, ← hb2]
  unfold rRes
  generalize gatOut (gr x0 x1 x2 p) _ _ n = y
  generalize P.b2 d = z
  rfl

end Layer2

end Cert.ReferenceIdeal.Read

end
-- ==== Proof.RTop.lean ====
module

public import proofs.«01_k».proof.Proof.RLayer2b

@[expose] public section

noncomputable section

/-! # The reference's result -/

namespace Cert.ReferenceIdeal.Read

open Cert.ReferenceIdeal Cert.ReferenceIdeal.Gen Idealize.ShloMosaic Cert.Gat

/-- The nodes of every graph as a row of their own. -/
theorem split3 (y : (⟨S819200x32, .f32⟩ : BufTy).Contents (Elt Ideal)) (p : Fin 2048) (n : Fin 400) (d : Fin 32) :
    (shapeCast S2048x400x32 y shapeCasts_S819200x32_S2048x400x32 : (⟨S2048x400x32, .f32⟩ : BufTy).Contents (Elt Ideal)) (ix3 p n d) = y (ix2 (nd p n) d) :=
  shapeCast_apply y shapeCasts_S819200x32_S2048x400x32 (ix3 p n d) (ix2 (nd p n) d)
    (by rewrite [Shape.rowMajor_val_three, Shape.rowMajor_val_two]; show (p.val * 400 + n.val) * 32 + d.val = (p.val * 400 + n.val) * 32 + d.val; rfl)

/-- The number of graph `g` of batch row `b` in the disjoint union. -/
def gb (g : Fin 8) (b : Fin 256) : Fin 2048 := ⟨g.val * 256 + b.val, by omega⟩

/-- The graph number of graph `g` of batch row `b` is `g`. -/
theorem gI_gb (g : Fin 8) (b : Fin 256) : gI (gb g b) = g := Fin.ext (show (g.val * 256 + b.val) / 256 = g.val by omega)
/-- The batch row of graph `g` of batch row `b` is `b`. -/
theorem bI_gb (g : Fin 8) (b : Fin 256) : bI (gb g b) = b := Fin.ext (show (g.val * 256 + b.val) % 256 = b.val by omega)

/-- The graphs' values as a matrix. -/
theorem split4 (y : (⟨S2048x1, .f32⟩ : BufTy).Contents (Elt Ideal)) (g : Fin 8) (b : Fin 256) :
    (shapeCast S8x256 y shapeCasts_S2048x1_S8x256 : (⟨S8x256, .f32⟩ : BufTy).Contents (Elt Ideal)) (ix2 g b) = y (ix2 (gb g b) (0 : Fin 1)) :=
  shapeCast_apply y shapeCasts_S2048x1_S8x256 (ix2 g b) (ix2 (gb g b) (0 : Fin 1))
    (by rewrite [Shape.rowMajor_val_two, Shape.rowMajor_val_two]; show (g.val * 256 + b.val) * 1 + 0 = g.val * 256 + b.val; omega)

section Top

variable (x0 : (⟨S256x5000, .f32⟩ : BufTy).Contents (Elt Ideal)) {x1 : (⟨S8x2x1600, .i32⟩ : BufTy).Contents (Elt Ideal)}
  {x2 : (⟨S8x400, .i32⟩ : BufTy).Contents (Elt Ideal)} (x3 : (⟨S1x32, .f32⟩ : BufTy).Contents (Elt Ideal))
  (x4 x5 : (⟨S4x8, .f32⟩ : BufTy).Contents (Elt Ideal)) (x6 : (⟨S32, .f32⟩ : BufTy).Contents (Elt Ideal))
  (x7 : (⟨S32x32, .f32⟩ : BufTy).Contents (Elt Ideal)) (x8 x9 : (⟨S1x32, .f32⟩ : BufTy).Contents (Elt Ideal))
  (x10 : (⟨S32, .f32⟩ : BufTy).Contents (Elt Ideal))
  (x11 : (⟨S32x1, .f32⟩ : BufTy).Contents (Elt Ideal)) (x12 : (⟨S1, .f32⟩ : BufTy).Contents (Elt Ideal))
  (x13 : (⟨S8x128, .f32⟩ : BufTy).Contents (Elt Ideal)) (x14 : (⟨S128, .f32⟩ : BufTy).Contents (Elt Ideal))
  (x15 : (⟨S128x128, .f32⟩ : BufTy).Contents (Elt Ideal)) (x16 : (⟨S128, .f32⟩ : BufTy).Contents (Elt Ideal))
  (x17 : (⟨S128x1, .f32⟩ : BufTy).Contents (Elt Ideal)) (x18 : (⟨S1, .f32⟩ : BufTy).Contents (Elt Ideal))
  (hlt : ∀ g r e, (x1 (ix3 g r e)).toNat < 400)
  (hgi : ∀ g n, (x2 (ix2 g n)).toNat < 5000) {P : Params} (hw1 : ∀ d, P.w1 d = x3 (ix2 (0 : Fin 1) d))
  (has : ∀ h j, P.as1 h j = x4 (ix2 h j)) (had : ∀ h j, P.ad1 h j = x5 (ix2 h j)) (hb1 : ∀ d, P.b1 d = x6 (ix1 d))
  (hw2 : ∀ k d, P.w2 k d = x7 (ix2 k d)) (has2 : ∀ d, P.as2 d = x8 (ix2 (0 : Fin 1) d)) (had2 : ∀ d, P.ad2 d = x9 (ix2 (0 : Fin 1) d))
  (hb2 : ∀ d, P.b2 d = x10 (ix1 d))
  (hfw : ∀ d, P.fcw d = x11 (ix2 d (0 : Fin 1))) (hfb : P.fcb = x12 (ix1 (0 : Fin 1)))
  {M : Mlp} (hm1 : ∀ g k, M.w1 g k = x13 (ix2 g k)) (hn1 : ∀ k, M.b1 k = x14 (ix1 k)) (hm2 : ∀ k l, M.w2 k l = x15 (ix2 k l))
  (hn2 : ∀ l, M.b2 l = x16 (ix1 l)) (hm3 : ∀ l, M.w3 l = x17 (ix2 l (0 : Fin 1))) (hn3 : M.b3 = x18 (ix1 (0 : Fin 1)))

include hlt hgi hw1 has had hb1 hw2 has2 had2 hb2

/-- The sums over the nodes of every graph. -/
theorem v150_val (p : Fin 2048) (d : Fin 32) :
    val_main_v150 (F := Ideal) x0 x1 x2 x3 x4 x5 x6 x7 x8 x9 x10 (ix2 p d) = ∑ n, rRes (gr x0 x1 x2 p) P d n := by
  have hv := fun n => v148_val x0 x3 x4 x5 x6 x7 x8 x9 x10 hlt hgi hw1 has had hb1 hw2 has2 had2 hb2 p n d
  have hs : ∀ n, val_main_v149 (F := Ideal) x0 x1 x2 x3 x4 x5 x6 x7 x8 x9 x10 (ix3 p n d) = rRes (gr x0 x1 x2 p) P d n := fun n => by
    unfold val_main_v149
    exact (split3 _ p n d).trans (hv n)
  unfold val_main_v150 val_main_cst_29
  generalize val_main_v149 (F := Ideal) x0 x1 x2 x3 x4 x5 x6 x7 x8 x9 x10 = y at hs ⊢
  pointwise
  simp only [hs]

include hfw hfb

/-- Every graph's value. -/
theorem v156_val (p : Fin 2048) :
    val_main_v156 (F := Ideal) x0 x1 x2 x3 x4 x5 x6 x7 x8 x9 x10 x11 x12 (ix2 p (0 : Fin 1)) = rVal (gr x0 x1 x2 p) P := by
  have hv := v150_val x0 x3 x4 x5 x6 x7 x8 x9 x10 hlt hgi hw1 has had hb1 hw2 has2 had2 hb2 p
  unfold val_main_v156 val_main_v155 val_main_v154 val_main_v153 val_main_v152 val_main_v151 val_main_cst_30
  generalize val_main_v150 (F := Ideal) x0 x1 x2 x3 x4 x5 x6 x7 x8 x9 x10 = y at hv ⊢
  pointwise [dot_S2048x32_S32x1_S2048x1_1_0_0_1_n_n]
  unfold rVal fcOut nodes
  simp only [hv, hfw, hfb]
  try rfl

/-- Every graph's value, by batch row. -/
theorem v158_val (b : Fin 256) (g : Fin 8) :
    val_main_v158 (F := Ideal) x0 x1 x2 x3 x4 x5 x6 x7 x8 x9 x10 x11 x12 (ix2 b g)
      = rVal (graphOf (fun b k => x0 (ix2 b k)) (fun g r e => x1 (ix3 g r e)) (fun g n => x2 (ix2 g n)) b g) P := by
  have hv := v156_val x0 x3 x4 x5 x6 x7 x8 x9 x10 x11 x12 hlt hgi hw1 has had hb1 hw2 has2 had2 hb2 hfw hfb (gb g b)
  have hs : val_main_v157 (F := Ideal) x0 x1 x2 x3 x4 x5 x6 x7 x8 x9 x10 x11 x12 (ix2 g b) = rVal (gr x0 x1 x2 (gb g b)) P := by
    unfold val_main_v157
    exact (split4 _ g b).trans hv
  unfold val_main_v158
  generalize val_main_v157 (F := Ideal) x0 x1 x2 x3 x4 x5 x6 x7 x8 x9 x10 x11 x12 = y at hs ⊢
  unfold gr at hs
  rw [gI_gb, bI_gb] at hs
  pointwise
  exact hs

include hm1 hn1 hm2 hn2 hm3 hn3

/-- The result. -/
theorem v172_val (b : Fin 256) :
    val_main_v172 (F := Ideal) x0 x1 x2 x3 x4 x5 x6 x7 x8 x9 x10 x11 x12 x13 x14 x15 x16 x17 x18 (ix2 b (0 : Fin 1))
      = result rVal (fun b k => x0 (ix2 b k)) (fun g r e => x1 (ix3 g r e)) (fun g n => x2 (ix2 g n)) P M b := by
  have hv := v158_val x0 x3 x4 x5 x6 x7 x8 x9 x10 x11 x12 hlt hgi hw1 has had hb1 hw2 has2 had2 hb2 hfw hfb b
  unfold val_main_v172 val_main_v171 val_main_v170 val_main_v169 val_main_v168 val_main_call5_v0 val_main_call5_cst val_main_v167
    val_main_v166 val_main_v165 val_main_v164 val_main_v163 val_main_call4_v0 val_main_call4_cst val_main_v162 val_main_v161
    val_main_v160 val_main_v159
  generalize val_main_v158 (F := Ideal) x0 x1 x2 x3 x4 x5 x6 x7 x8 x9 x10 x11 x12 = y at hv ⊢
  pointwise [dot_S256x8_S8x128_S256x128_1_0_0_1_n_n, dot_S256x128_S128x128_S256x128_1_0_0_1_n_n, dot_S256x128_S128x1_S256x1_1_0_0_1_n_n]
  unfold result mlp
  simp only [hv, hm1, hn1, hm2, hn2, hm3, hn3]
  try rfl

end Top

end Cert.ReferenceIdeal.Read

end
-- ==== Proof.SpecEq.lean ====
module

public import proofs.«01_k».proof.Proof.Spec
public import Mathlib.Tactic.Ring
public import Mathlib.Tactic.Positivity

@[expose] public section

noncomputable section

/-! # The two orders of computation agree -/

namespace Cert.Gat

open Idealize.ShloMosaic

/-- The guard is a positive real. -/
theorem eps_coe : ∃ r : ℝ, 0 < r ∧ eps = (r : EReal) := by
  refine ⟨_, ?_, by simp [eps, Ideal.ofBits, Ideal.ieee]; rfl⟩
  positivity

/-- The slope is a real. -/
theorem slope_coe : ∃ r : ℝ, slope = (r : EReal) :=
  ⟨_, by simp [slope, Ideal.ofBits, Ideal.ieee]; rfl⟩

/-- The guard is positive. -/
theorem eps_pos : 0 < eps := by
  obtain ⟨r, h, e⟩ := eps_coe
  rw [e]; exact_mod_cast h

/-- On a real score the weight is a positive real. -/
theorem att_coe : ∃ f : ℝ → ℝ, (∀ r, 0 < f r) ∧ ∀ r : ℝ, att (r : EReal) = (f r : EReal) := by
  obtain ⟨s, hs⟩ := slope_coe
  refine ⟨fun r => Real.exp (if 0 ≤ r then r else s * r), fun r => Real.exp_pos _, fun r => ?_⟩
  unfold att lrelu
  by_cases h : 0 ≤ r
  · rw [if_pos (by exact_mod_cast h)]; simp only [if_pos h]; rfl
  · rw [if_neg (by exact_mod_cast h), hs, ← EReal.coe_mul]; simp only [if_neg h]; rfl

/-- A weight is never negative. -/
theorem att_nonneg (t : EReal) : 0 ≤ att t := by
  unfold att
  induction lrelu t with
  | bot => exact le_refl _
  | top => exact le_top
  | coe r => exact EReal.coe_nonneg.2 (Real.exp_pos r).le

/-- A sum of reals, read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An indicator is a real. -/
theorem coe_ind (p : Prop) [Decidable p] : ind p = ((if p then 1 else 0 : ℝ) : EReal) := by
  unfold ind; split <;> simp

/-- Multiplying by a sum of terms none of which is negative. -/
theorem mul_sum_nonneg {ι : Type} (s : Finset ι) (f : ι → EReal) (hf : ∀ i, 0 ≤ f i) (c : EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg (hf a) (Finset.sum_nonneg fun i _ => hf i), ih]

/-- Multiplying a sum by a factor that is neither negative nor infinite. -/
theorem sum_mul_of_ne_top {ι : Type} (s : Finset ι) (f : ι → EReal) {c : EReal} (h0 : 0 ≤ c) (h1 : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 h1, ih]

/-- An indicator is not negative. -/
theorem ind_nonneg (p : Prop) [Decidable p] : 0 ≤ ind p := by unfold ind; split <;> simp

/-- A sum against an indicator is the term it picks. -/
theorem sum_mul_ind {ι : Type} [Fintype ι] [DecidableEq ι] (f : ι → EReal) (a : ι) : ∑ i, f i * ind (i = a) = f a := by
  rw [Finset.sum_eq_single a (fun b _ hb => by simp [ind, hb]) (fun h => (h (Finset.mem_univ _)).elim)]
  simp [ind]

/-- A sum against indicators is the sum over where they hold. -/
theorem sum_mul_ind_filter {ι : Type} [Fintype ι] (f : ι → EReal) (p : ι → Prop) [DecidablePred p] :
    ∑ i, f i * ind (p i) = ∑ i with p i, f i := by
  rw [Finset.sum_filter]
  refine Finset.sum_congr rfl fun i _ => ?_
  unfold ind; split <;> simp

/-! ## The second layer -/

section Second

variable (G : Graph)

/-- One factor through the matrix of weights: the sum over the edges into `j`, its loop's term last. -/
theorem sum_poolAt (h : Fin 400 → EReal) (as ad : Fin 400 → EReal) (j : Fin 400) :
    ∑ i, h i * poolAt (kCt G) as ad i j
      = (∑ e with G.dst e = j, h (G.src e) * att (as (G.src e) + ad (G.dst e))) + h j * att (as j + ad j) := by
  have h1 : ∀ i, h i * poolAt (kCt G) as ad i j
      = (∑ e, (h i * att (as i + ad j)) * ind (j = G.dst e) * ind (i = G.src e)) + (h i * att (as i + ad j)) * ind (i = j) := by
    intro i
    unfold poolAt kCt
    rw [EReal.right_distrib_of_nonneg (Finset.sum_nonneg fun e _ => mul_nonneg (ind_nonneg _) (ind_nonneg _)) (ind_nonneg _),
      EReal.left_distrib_of_nonneg (mul_nonneg (Finset.sum_nonneg fun e _ => mul_nonneg (ind_nonneg _) (ind_nonneg _)) (att_nonneg _))
        (mul_nonneg (ind_nonneg _) (att_nonneg _)), mul_comm (∑ e, _) (att _),
      mul_sum_nonneg _ _ (fun e => mul_nonneg (ind_nonneg _) (ind_nonneg _)),
      mul_sum_nonneg _ _ (fun e => mul_nonneg (att_nonneg _) (mul_nonneg (ind_nonneg _) (ind_nonneg _)))]
    congr 1
    · refine Finset.sum_congr rfl fun e _ => ?_
      ac_rfl
    · ac_rfl
  rw [Finset.sum_congr rfl fun i _ => h1 i, Finset.sum_add_distrib, sum_mul_ind, Finset.sum_comm]
  congr 1
  rw [Finset.sum_congr rfl fun e _ => sum_mul_ind (fun i => h i * att (as i + ad j) * ind (j = G.dst e)) (G.src e)]
  rw [sum_mul_ind_filter (fun e => h (G.src e) * att (as (G.src e) + ad j)) (fun e => j = G.dst e)]
  refine Finset.sum_congr (by ext e; simp [eq_comm]) fun e he => ?_
  rw [(Finset.mem_filter.1 he).2]

/-- Dividing by a positive value multiplies by its inverse. -/
theorem div_of_pos (x : EReal) {y : EReal} (hy : 0 < y) : Ideal.div x y = x * y⁻¹ := by
  unfold Ideal.div; rw [if_neg hy.ne']

/-- The inverse of a positive value is not infinite. -/
theorem inv_ne_top {y : EReal} (hy : 0 < y) : y⁻¹ ≠ ⊤ := by
  induction y with
  | bot => simp at hy
  | top => simp
  | coe r => rw [← EReal.coe_inv]; exact EReal.coe_ne_top _

/-- A sum of weights is not negative if no weight is. -/
theorem gatDen_nonneg (E : Fin 400 → Fin 400 → EReal) (hE : ∀ i j, 0 ≤ E i j) (n : Fin 400) : 0 ≤ gatDen G E n :=
  add_nonneg (Finset.sum_nonneg fun _ _ => hE _ _) (hE _ _)

/-- Dividing each edge's weight and dividing the whole sum agree. -/
theorem gatOut_eq (E : Fin 400 → Fin 400 → EReal) (hE : ∀ i j, 0 ≤ E i j) (h : Fin 400 → EReal) (n : Fin 400) :
    gatOut G E h n
      = Ideal.div ((∑ e with G.dst e = n, h (G.src e) * E (G.src e) (G.dst e)) + h n * E n n) (gatDen G E n + eps) := by
  have hp : 0 < gatDen G E n + eps := lt_of_lt_of_le eps_pos (le_add_of_nonneg_left (gatDen_nonneg G E hE n))
  have h0 : 0 ≤ (gatDen G E n + eps)⁻¹ := EReal.inv_nonneg_of_nonneg hp.le
  have h1 := inv_ne_top hp
  unfold gatOut
  rw [div_of_pos _ hp, div_of_pos _ hp, EReal.right_distrib_of_nonneg_of_ne_top h0 h1, sum_mul_of_ne_top _ _ h0 h1, mul_assoc]
  congr 1
  refine Finset.sum_congr rfl fun e he => ?_
  rw [(Finset.mem_filter.1 he).2, div_of_pos _ hp, mul_assoc]

end Second

/-! ## The first layer -/

section First

variable (G : Graph) (P : Params)

/-- With finite features and finite first-layer weights the two first layers agree. -/
theorem kH1_eq (zr : Fin 400 → ℝ) (hz : ∀ n, G.z n = zr n) (wr : Fin 32 → ℝ) (hw : ∀ c, P.w1 c = wr c)
    (sr dr : Fin 4 → Fin 8 → ℝ) (hs : ∀ h j, P.as1 h j = sr h j) (hd : ∀ h j, P.ad1 h j = dr h j) (c : Fin 32) (n : Fin 400) :
    kH1 G P c n = rH1 G P n c := by
  obtain ⟨f, fpos, hf⟩ := att_coe
  obtain ⟨ep, eppos, hep⟩ := eps_coe
  set h := headOf c with hh
  set cs : ℝ := ∑ j, wr (chan h j) * sr h j with hcs
  set cd : ℝ := ∑ j, wr (chan h j) * dr h j with hcd
  have kcs : kC P P.as1 h = (cs : EReal) := by
    unfold kC; rw [hcs, coe_sum]; exact Finset.sum_congr rfl fun j _ => by rw [hw, hs, EReal.coe_mul]
  have kcd : kC P P.ad1 h = (cd : EReal) := by
    unfold kC; rw [hcd, coe_sum]; exact Finset.sum_congr rfl fun j _ => by rw [hw, hd, EReal.coe_mul]
  have ras : ∀ m, rA G P P.as1 m h = ((cs * zr m : ℝ) : EReal) := fun m => by
    unfold rA rH; rw [hcs, Finset.sum_mul, coe_sum]
    exact Finset.sum_congr rfl fun j _ => by rw [hw, hs, hz, ← EReal.coe_mul, ← EReal.coe_mul]; congr 1; ring
  have rad : ∀ m, rA G P P.ad1 m h = ((cd * zr m : ℝ) : EReal) := fun m => by
    unfold rA rH; rw [hcd, Finset.sum_mul, coe_sum]
    exact Finset.sum_congr rfl fun j _ => by rw [hw, hd, hz, ← EReal.coe_mul, ← EReal.coe_mul]; congr 1; ring
  have hE : ∀ i j, rE G P h i j = (f (cs * zr i + cd * zr j) : EReal) := fun i j => by
    unfold rE; rw [ras, rad, ← EReal.coe_add, hf]
  have hex : ∀ e, kEx G P h e = rE G P h (G.src e) (G.dst e) := fun e => by
    rw [hE]; unfold kEx; rw [kcs, kcd, hz, hz, ← EReal.coe_mul, ← EReal.coe_mul, ← EReal.coe_add, hf]
  have hexs : ∀ m, kExs G P h m = rE G P h m m := fun m => by
    rw [hE]; unfold kExs; rw [kcs, kcd, hz, ← EReal.coe_add, ← EReal.coe_mul, hf, add_mul]
  have hE0 : ∀ i j, 0 ≤ rE G P h i j := fun i j => att_nonneg _
  have hden : kDen G P h n = gatDen G (rE G P h) n := by
    unfold kDen gatDen
    rw [sum_mul_ind_filter (fun e => kEx G P h e) (fun e => n = G.dst e), hexs]
    congr 1
    exact Finset.sum_congr (by ext e; simp [eq_comm]) fun e _ => hex e
  have hnum : kNum G P h n = (∑ e with G.dst e = n, G.z (G.src e) * rE G P h (G.src e) (G.dst e)) + G.z n * rE G P h n n := by
    unfold kNum
    rw [sum_mul_ind_filter (fun e => kEx G P h e * G.z (G.src e)) (fun e => n = G.dst e), hexs]
    rw [mul_comm (G.z n)]
    congr 1
    exact Finset.sum_congr (by ext e; simp [eq_comm]) fun e _ => by rw [hex, mul_comm]
  unfold kH1 rH1
  rw [← hh, gatOut_eq G _ hE0, ← hden]
  have hpos : 0 < kDen G P h n + eps := by
    rw [hden]; exact lt_of_lt_of_le eps_pos (le_add_of_nonneg_left (gatDen_nonneg G _ hE0 n))
  rw [div_of_pos _ hpos, div_of_pos _ hpos, mul_right_comm]
  congr 3
  -- the factor `w1 c` comes out of the weighted sum: every term is real
  rw [hnum]
  simp only [rH, hE, hz, hw, ← EReal.coe_mul, ← coe_sum, ← EReal.coe_add]
  congr 1
  rw [add_mul, Finset.sum_mul]
  congr 1
  · exact Finset.sum_congr rfl fun e _ => by ring
  · ring

end First

/-- With finite features and finite first-layer weights the two orders of computation agree. -/
theorem kVal_eq_rVal (G : Graph) (P : Params) (hz : ∀ n, ∃ r : ℝ, G.z n = r) (hw : ∀ c, ∃ r : ℝ, P.w1 c = r)
    (hs : ∀ h j, ∃ r : ℝ, P.as1 h j = r) (hd : ∀ h j, ∃ r : ℝ, P.ad1 h j = r) : kVal G P = rVal G P := by
  choose zr hz using hz
  choose wr hw using hw
  choose sr hs using hs
  choose dr hd using hd
  have h2 : ∀ d n, kH2 G P d n = rH2 G P n d := fun d n => by
    unfold kH2 rH2
    exact Finset.sum_congr rfl fun c _ => by rw [kH1_eq G P zr hz wr hw sr dr hs hd, mul_comm]
  have a2 : ∀ a n, kA2 G P a n = rA2 G P a n := fun a n => by
    unfold kA2 rA2
    exact Finset.sum_congr rfl fun d _ => by rw [h2, mul_comm]
  unfold kVal rVal
  congr 1
  funext d j
  unfold poolRes rRes
  have hE0 : ∀ i j, 0 ≤ rE2 G P i j := fun i j => att_nonneg _
  rw [gatOut_eq G _ hE0, sum_poolAt, sum_poolAt (h := fun _ => 1)]
  simp only [a2, h2, one_mul]
  rfl

end Cert.Gat

end
-- ==== Proof.Value.lean ====
module

public import proofs.«01_k».proof.Defs
public import proofs.«01_k».proof.Proof.KVal
public import proofs.«01_k».proof.Proof.KRun
public import proofs.«01_k».proof.Proof.Pre
public import proofs.«01_k».proof.Proof.RTop
public import proofs.«01_k».proof.Proof.SpecEq
public import proofs.«01_k».proof.Proof.Gen.ReferenceIdeal.Run

@[expose] public section

noncomputable section

/-! # The kernel and the reference compute the same result -/

namespace Cert.Proof

open Cert.ReferenceIdeal Idealize.ShloMosaic Idealize.SL.Sem Cert.Gat

/-- The network's parameters, from the arrays. -/
def paramsOf (x3 : (⟨S1x32, .f32⟩ : BufTy).Contents (Elt Ideal)) (x4 : (⟨S4x8, .f32⟩ : BufTy).Contents (Elt Ideal)) (x5 : (⟨S4x8, .f32⟩ : BufTy).Contents (Elt Ideal)) (x6 : (⟨S32, .f32⟩ : BufTy).Contents (Elt Ideal)) (x7 : (⟨S32x32, .f32⟩ : BufTy).Contents (Elt Ideal)) (x8 : (⟨S1x32, .f32⟩ : BufTy).Contents (Elt Ideal)) (x9 : (⟨S1x32, .f32⟩ : BufTy).Contents (Elt Ideal)) (x10 : (⟨S32, .f32⟩ : BufTy).Contents (Elt Ideal)) (x11 : (⟨S32x1, .f32⟩ : BufTy).Contents (Elt Ideal)) (x12 : (⟨S1, .f32⟩ : BufTy).Contents (Elt Ideal)) : Params where
  w1 d := x3 (ix2 (0 : Fin 1) d)
  as1 h j := x4 (ix2 h j)
  ad1 h j := x5 (ix2 h j)
  b1 d := x6 (ix1 d)
  w2 k d := x7 (ix2 k d)
  as2 d := x8 (ix2 (0 : Fin 1) d)
  ad2 d := x9 (ix2 (0 : Fin 1) d)
  b2 d := x10 (ix1 d)
  fcw d := x11 (ix2 d (0 : Fin 1))
  fcb := x12 (ix1 (0 : Fin 1))

/-- The last three linear layers' parameters, from the arrays. -/
def mlpOf (x13 : (⟨S8x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x1, .f32⟩ : BufTy).Contents (Elt Ideal)) (x18 : (⟨S1, .f32⟩ : BufTy).Contents (Elt Ideal)) : Mlp where
  w1 g k := x13 (ix2 g k)
  b1 k := x14 (ix1 k)
  w2 k l := x15 (ix2 k l)
  b2 l := x16 (ix1 l)
  w3 l := x17 (ix2 l (0 : Fin 1))
  b3 := x18 (ix1 (0 : Fin 1))

/-- An index of the result is its row. -/
theorem idx_row (i : S256x1.Idx) : i = ix2 (i 0 : Fin 256) (0 : Fin 1) := by
  funext a
  match a with
  | ⟨0, _⟩ => rfl
  | ⟨1, _⟩ => exact Fin.ext (by have h : (i 1).val < 1 := (i 1).isLt; show (i 1).val = 0; omega)

section Arrays

variable (x0 : (⟨S256x5000, .f32⟩ : BufTy).Contents (Elt Ideal))
  (x1 : (⟨S8x2x1600, .i32⟩ : BufTy).Contents (Elt Ideal))
  (x2 : (⟨S8x400, .i32⟩ : BufTy).Contents (Elt Ideal))
  (x3 : (⟨S1x32, .f32⟩ : BufTy).Contents (Elt Ideal))
  (x4 : (⟨S4x8, .f32⟩ : BufTy).Contents (Elt Ideal))
  (x5 : (⟨S4x8, .f32⟩ : BufTy).Contents (Elt Ideal))
  (x6 : (⟨S32, .f32⟩ : BufTy).Contents (Elt Ideal))
  (x7 : (⟨S32x32, .f32⟩ : BufTy).Contents (Elt Ideal))
  (x8 : (⟨S1x32, .f32⟩ : BufTy).Contents (Elt Ideal))
  (x9 : (⟨S1x32, .f32⟩ : BufTy).Contents (Elt Ideal))
  (x10 : (⟨S32, .f32⟩ : BufTy).Contents (Elt Ideal))
  (x11 : (⟨S32x1, .f32⟩ : BufTy).Contents (Elt Ideal))
  (x12 : (⟨S1, .f32⟩ : BufTy).Contents (Elt Ideal))
  (x13 : (⟨S8x128, .f32⟩ : BufTy).Contents (Elt Ideal))
  (x14 : (⟨S128, .f32⟩ : BufTy).Contents (Elt Ideal))
  (x15 : (⟨S128x128, .f32⟩ : BufTy).Contents (Elt Ideal))
  (x16 : (⟨S128, .f32⟩ : BufTy).Contents (Elt Ideal))
  (x17 : (⟨S128x1, .f32⟩ : BufTy).Contents (Elt Ideal))
  (x18 : (⟨S1, .f32⟩ : BufTy).Contents (Elt Ideal))
  (hlt : ∀ g r e, (x1 (ix3 g r e)).toNat < 400) (hgi : ∀ g n, (x2 (ix2 g n)).toNat < 5000)

include hlt hgi in
/-- The reference's result from arrays equal to the given ones. -/
theorem reference_result (y0 : (⟨S256x5000, .f32⟩ : BufTy).Contents (Elt Ideal))
  (y1 : (⟨S8x2x1600, .i32⟩ : BufTy).Contents (Elt Ideal))
  (y2 : (⟨S8x400, .i32⟩ : BufTy).Contents (Elt Ideal))
  (y3 : (⟨S1x32, .f32⟩ : BufTy).Contents (Elt Ideal))
  (y4 : (⟨S4x8, .f32⟩ : BufTy).Contents (Elt Ideal))
  (y5 : (⟨S4x8, .f32⟩ : BufTy).Contents (Elt Ideal))
  (y6 : (⟨S32, .f32⟩ : BufTy).Contents (Elt Ideal))
  (y7 : (⟨S32x32, .f32⟩ : BufTy).Contents (Elt Ideal))
  (y8 : (⟨S1x32, .f32⟩ : BufTy).Contents (Elt Ideal))
  (y9 : (⟨S1x32, .f32⟩ : BufTy).Contents (Elt Ideal))
  (y10 : (⟨S32, .f32⟩ : BufTy).Contents (Elt Ideal))
  (y11 : (⟨S32x1, .f32⟩ : BufTy).Contents (Elt Ideal))
  (y12 : (⟨S1, .f32⟩ : BufTy).Contents (Elt Ideal))
  (y13 : (⟨S8x128, .f32⟩ : BufTy).Contents (Elt Ideal))
  (y14 : (⟨S128, .f32⟩ : BufTy).Contents (Elt Ideal))
  (y15 : (⟨S128x128, .f32⟩ : BufTy).Contents (Elt Ideal))
  (y16 : (⟨S128, .f32⟩ : BufTy).Contents (Elt Ideal))
  (y17 : (⟨S128x1, .f32⟩ : BufTy).Contents (Elt Ideal))
  (y18 : (⟨S1, .f32⟩ : BufTy).Contents (Elt Ideal))
    (h : y0 = x0 ∧ y1 = x1 ∧ y2 = x2 ∧ y3 = x3 ∧ y4 = x4 ∧ y5 = x5 ∧ y6 = x6 ∧ y7 = x7 ∧ y8 = x8 ∧ y9 = x9 ∧ y10 = x10 ∧ y11 = x11 ∧ y12 = x12 ∧ y13 = x13 ∧ y14 = x14 ∧ y15 = x15 ∧ y16 = x16 ∧ y17 = x17 ∧ y18 = x18) :
    Cert.ReferenceIdeal.Read.val_main_v172 (F := Ideal) y0 y1 y2 y3 y4 y5 y6 y7 y8 y9 y10 y11 y12 y13 y14 y15 y16 y17 y18
      = fun i : S256x1.Idx => result rVal (fun b k => x0 (ix2 b k)) (fun g r e => x1 (ix3 g r e)) (fun g n => x2 (ix2 g n)) (paramsOf x3 x4 x5 x6 x7 x8 x9 x10 x11 x12) (mlpOf x13 x14 x15 x16 x17 x18) (i 0) := by
  obtain ⟨rfl, rfl, rfl, rfl, rfl, rfl, rfl, rfl, rfl, rfl, rfl, rfl, rfl, rfl, rfl, rfl, rfl, rfl, rfl⟩ := h
  funext i
  have hi := idx_row i
  generalize (i 0 : Fin 256) = b at hi ⊢
  subst hi
  exact Cert.ReferenceIdeal.Read.v172_val (P := paramsOf y3 y4 y5 y6 y7 y8 y9 y10 y11 y12) (M := mlpOf y13 y14 y15 y16 y17 y18)
    y0 y3 y4 y5 y6 y7 y8 y9 y10 y11 y12 y13 y14 y15 y16 y17 y18 hlt hgi (fun _ => rfl) (fun _ _ => rfl) (fun _ _ => rfl) (fun _ => rfl) (fun _ _ => rfl) (fun _ => rfl) (fun _ => rfl) (fun _ => rfl)
    (fun _ => rfl) rfl (fun _ _ => rfl) (fun _ => rfl) (fun _ _ => rfl) (fun _ => rfl) (fun _ => rfl) rfl b

/-- The two orders of computation agree where the expressions and the first layer's parameters are finite. -/
theorem result_eq (hx : ∀ b k, ∃ r : ℝ, x0 (ix2 b k) = r) (hw : ∀ b k, ∃ r : ℝ, x3 (ix2 b k) = r)
    (hs : ∀ b k, ∃ r : ℝ, x4 (ix2 b k) = r) (hd : ∀ b k, ∃ r : ℝ, x5 (ix2 b k) = r) (b : Fin 256) :
    result kVal (fun b k => x0 (ix2 b k)) (fun g r e => x1 (ix3 g r e)) (fun g n => x2 (ix2 g n)) (paramsOf x3 x4 x5 x6 x7 x8 x9 x10 x11 x12) (mlpOf x13 x14 x15 x16 x17 x18) b
      = result rVal (fun b k => x0 (ix2 b k)) (fun g r e => x1 (ix3 g r e)) (fun g n => x2 (ix2 g n)) (paramsOf x3 x4 x5 x6 x7 x8 x9 x10 x11 x12) (mlpOf x13 x14 x15 x16 x17 x18) b := by
  unfold result
  refine congrArg (mlp _) (funext fun g => ?_)
  exact kVal_eq_rVal _ _ (fun n => hx _ _) (fun c => hw _ _) (fun h j => hs _ _) (fun h j => hd _ _)

end Arrays

/-- From memories that hold the same arguments, in range and finite where the precondition says so, the kernel and the
    reference end with the same result. -/
theorem algebraicClaim : Cert.algebraic_KernelIdeal_ReferenceIdeal_pre_inputs_in_range (hKernelIdeal := Cert.KernelIdeal.Gen.facts)
    (hReferenceIdeal := Cert.ReferenceIdeal.Gen.facts) (hPre_inputs_in_range := Cert.Pre_inputs_in_range.Gen.facts) := by
  intro m g m' g' hpre hargs
  refine ⟨fun c => fun i : S256x1.Idx => result rVal (fun b k => (m ((c.tc : Thread Cert.KernelIdeal.nD Cert.KernelIdeal.τ).loc Cert.KernelIdeal.main_arg0)) (ix2 b k))
    (fun g r e => (m ((c.tc : Thread Cert.KernelIdeal.nD Cert.KernelIdeal.τ).loc Cert.KernelIdeal.main_arg1)) (ix3 g r e)) (fun g n => (m ((c.tc : Thread Cert.KernelIdeal.nD Cert.KernelIdeal.τ).loc Cert.KernelIdeal.main_arg2)) (ix2 g n))
    (paramsOf (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)))
    (mlpOf (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) (i 0), ?_, ?_⟩
  · refine (θ_run _ _ _).mono (fun r h c => ⟨(h c).1.trans ?_, (h c).2⟩) (Cert.KernelIdeal.Gen.value m g)
    obtain ⟨he, hg, hx, hw, hs, hd⟩ := hpre c
    have hlt := Cert.Pre_inputs_in_range.edges_lt _ _ _ _ _ _ _ _ _ _ _ _ _ _ _ _ _ _ _ he
    have hgi := Cert.Pre_inputs_in_range.genes_lt _ _ _ _ _ _ _ _ _ _ _ _ _ _ _ _ _ _ _ hg
    have hx := Cert.Pre_inputs_in_range.x_fin _ _ _ _ _ _ _ _ _ _ _ _ _ _ _ _ _ _ _ hx
    have hw := Cert.Pre_inputs_in_range.w_fin _ _ _ _ _ _ _ _ _ _ _ _ _ _ _ _ _ _ _ hw
    have hs := Cert.Pre_inputs_in_range.s_fin _ _ _ _ _ _ _ _ _ _ _ _ _ _ _ _ _ _ _ hs
    have hd := Cert.Pre_inputs_in_range.d_fin _ _ _ _ _ _ _ _ _ _ _ _ _ _ _ _ _ _ _ hd
    refine (Cert.KernelIdeal.Gen.v12_val (P := paramsOf (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)))
      (M := mlpOf (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) g
      ⟨hgi, hlt, fun _ _ => rfl, fun _ _ _ => rfl, fun _ _ => rfl, fun _ => rfl, fun _ _ => rfl, fun _ _ => rfl, fun _ => rfl,
        fun _ _ => rfl, fun _ => rfl, fun _ => rfl, fun _ => rfl, fun _ => rfl, rfl, fun _ _ => rfl, fun _ => rfl, fun _ _ => rfl,
        fun _ => rfl, fun _ => rfl, rfl⟩).trans ?_
    exact funext fun i => result_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) hx hw hs hd (i 0)
  · refine (θ_run _ _ _).mono (fun r h c => ⟨(h c).1.trans ?_, (h c).2⟩) (Cert.ReferenceIdeal.Value.run (F := Ideal) m' g')
    obtain ⟨he, hg, -⟩ := hpre c
    have hlt := Cert.Pre_inputs_in_range.edges_lt _ _ _ _ _ _ _ _ _ _ _ _ _ _ _ _ _ _ _ he
    have hgi := Cert.Pre_inputs_in_range.genes_lt _ _ _ _ _ _ _ _ _ _ _ _ _ _ _ _ _ _ _ hg
    refine (Cert.ReferenceIdeal.Read.val_main_v172_eq (F := Ideal) (StableHlo.launchContents m' c)).trans ?_
    exact reference_result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) hlt hgi _ _ _ _ _ _ _ _ _ _ _ _ _ _ _ _ _ _ _ (hargs c)

end Cert.Proof

end
-- ==== Proof.lean ====
module

public import proofs.«01_k».proof.Proof.Frames
public import proofs.«01_k».proof.Proof.Value

@[expose] public section

noncomputable section

namespace Cert.Proof

open Idealize.ShloMosaic Idealize.SL.Sem

/-- The kernel at extended reals terminates and leaves its arguments as they were, in particular from every memory
    whose arguments are in range. -/
theorem kernelIdealFrameInRange : Cert.quiescent_KernelIdeal_pre_inputs_in_range (hKernelIdeal := Cert.KernelIdeal.Gen.facts)
    (hPre_inputs_in_range := Cert.Pre_inputs_in_range.Gen.facts) := fun m ρ _ => kernelIdealFrame m ρ trivial

/-- The reference at extended reals terminates and leaves its arguments as they were, in particular from every memory
    whose arguments are in range. -/
theorem referenceIdealFrameInRange : Cert.quiescent_ReferenceIdeal_pre_inputs_in_range
    (hReferenceIdeal := Cert.ReferenceIdeal.Gen.facts) (hPre_inputs_in_range := Cert.Pre_inputs_in_range.Gen.facts) :=
  fun m ρ _ => referenceIdealFrame m ρ trivial

/-- The certificate's claim. -/
theorem claim : Cert.Claim :=
  ⟨Cert.Kernel.Gen.facts, Cert.KernelIdeal.Gen.facts, Cert.ReferenceIdeal.Gen.facts, Cert.Pre_inputs_in_range.Gen.facts,
    kernelFrame, kernelIdealFrame, kernelIdealFrameInRange, referenceIdealFrame, referenceIdealFrameInRange, trivial, algebraicClaim⟩

end Cert.Proof

end
